-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v78) = v0 c
          ∧ r.2.mem ((c.tc : Thread Cert.ReferenceIdeal.nD Cert.ReferenceIdeal.τ).loc Cert.ReferenceIdeal.main_v73) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S16384x768 : Shape := ⟨2, ![16384, 768]⟩
abbrev S768x512 : Shape := ⟨2, ![768, 512]⟩
abbrev S512 : Shape := ⟨1, ![512]⟩
abbrev S512x256 : Shape := ⟨2, ![512, 256]⟩
abbrev S256 : Shape := ⟨1, ![256]⟩
abbrev S256x64 : Shape := ⟨2, ![256, 64]⟩
abbrev S64 : Shape := ⟨1, ![64]⟩
abbrev S3x1024x64 : Shape := ⟨3, ![3, 1024, 64]⟩
abbrev S_ : Shape := ⟨0, ![]⟩

class Facts : Prop where
  bcast_S_S16384x768 : S_.BroadcastsInDim S16384x768 (![] : Fin 0 → Fin S16384x768.rank)
  reducesTo_S16384x768_S_d0_1 : S16384x768.ReducesTo [0, 1] S_
  h_S_ : 0 < S_.numel
  bcast_S_S768x512 : S_.BroadcastsInDim S768x512 (![] : Fin 0 → Fin S768x512.rank)
  reducesTo_S768x512_S_d0_1 : S768x512.ReducesTo [0, 1] S_
  bcast_S_S512 : S_.BroadcastsInDim S512 (![] : Fin 0 → Fin S512.rank)
  reducesTo_S512_S_d0 : S512.ReducesTo [0] S_
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_
  bcast_S_S3x1024x64 : S_.BroadcastsInDim S3x1024x64 (![] : Fin 0 → Fin S3x1024x64.rank)
  reducesTo_S3x1024x64_S_d0_1_2 : S3x1024x64.ReducesTo [0, 1, 2] S_

variable [Facts]

def fn_part2 {F : FTy → Type} [FloatOps F] (main_arg7 : FVec F S3x1024x64 .f32) (main_v33 : IVec S_ 1) : IVec S_ 1 :=
  let main_v34 : FVec F S3x1024x64 .f32 := Host.absf main_arg7
  let main_cst_12 : FVec F S_ .f32 := constant S_ .f32 0x7F800000#32
  let main_v35 : FVec F S3x1024x64 .f32 := broadcastInDim S3x1024x64 ![] bcast_S_S3x1024x64 main_cst_12
  let main_v36 : IVec S3x1024x64 1 := cmpf .olt main_v34 main_v35
  let main_c_13 : IVec S_ 1 := constantI S_ 1 1#1
  let main_v37 : IVec S_ 1 := (fun x v => Host.reduce IntOp.andi x v reducesTo_S3x1024x64_S_d0_1_2 h_S_) main_v36 main_c_13
  let main_v38 : IVec S_ 1 := andi main_v33 main_v37
  main_v38

def fn_part1 {F : FTy → Type} [FloatOps F] (main_arg4 : FVec F S256 .f32) (main_arg5 : FVec F S256x64 .f32) (main_arg6 : FVec F S64 .f32) (main_arg7 : FVec F S3x1024x64 .f32) (main_v13 : IVec S_ 1) (main_v16 : IVec S512x256 1) : IVec S_ 1 :=
  let main_c_5 : IVec S_ 1 := constantI S_ 1 1#1
  let main_v17 : IVec S_ 1 := (fun x v => Host.reduce IntOp.andi x v reducesTo_S512x256_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x64 .f32 := Host.absf main_arg5
  let main_cst_8 : FVec F S_ .f32 := constant S_ .f32 0x7F800000#32
  let main_v25 : FVec F S256x64 .f32 := broadcastInDim S256x64 ![] bcast_S_S256x64 main_cst_8
  let main_v26 : IVec S256x64 1 := cmpf .olt main_v24 main_v25
  let main_c_9 : IVec S_ 1 := constantI S_ 1 1#1
  let main_v27 : IVec S_ 1 := (fun x v => Host.reduce IntOp.andi x v reducesTo_S256x64_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg7 main_v33

def fn {F : FTy → Type} [FloatOps F] (main_arg0 : FVec F S16384x768 .f32) (main_arg1 : FVec F S768x512 .f32) (main_arg2 : FVec F S512 .f32) (main_arg3 : FVec F S512x256 .f32) (main_arg4 : FVec F S256 .f32) (main_arg5 : FVec F S256x64 .f32) (main_arg6 : FVec F S64 .f32) (main_arg7 : FVec F S3x1024x64 .f32) : IVec S_ 1 :=
  let main_v0 : FVec F S16384x768 .f32 := Host.absf main_arg0
  let main_cst : FVec F S_ .f32 := constant S_ .f32 0x7F800000#32
  let main_v1 : FVec F S16384x768 .f32 := broadcastInDim S16384x768 ![] bcast_S_S16384x768 main_cst
  let main_v2 : IVec S16384x768 1 := cmpf .olt main_v0 main_v1
  let main_c : IVec S_ 1 := constantI S_ 1 1#1
  let main_v3 : IVec S_ 1 := (fun x v => Host.reduce IntOp.andi x v reducesTo_S16384x768_S_d0_1 h_S_) main_v2 main_c
  let main_v4 : FVec F S768x512 .f32 := Host.absf main_arg1
  let main_cst_0 : FVec F S_ .f32 := constant S_ .f32 0x7F800000#32
  let main_v5 : FVec F S768x512 .f32 := broadcastInDim S768x512 ![] bcast_S_S768x512 main_cst_0
  let main_v6 : IVec S768x512 1 := cmpf .olt main_v4 main_v5
  let main_c_1 : IVec S_ 1 := constantI S_ 1 1#1
  let main_v7 : IVec S_ 1 := (fun x v => Host.reduce IntOp.andi x v reducesTo_S768x512_S_d0_1 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512x256 .f32 := Host.absf main_arg3
  let main_cst_4 : FVec F S_ .f32 := constant S_ .f32 0x7F800000#32
  let main_v15 : FVec F S512x256 .f32 := broadcastInDim S512x256 ![] bcast_S_S512x256 main_cst_4
  let main_v16 : IVec S512x256 1 := cmpf .olt main_v14 main_v15
  fn_part1 (F := F) main_arg4 main_arg5 main_arg6 main_arg7 main_v13 main_v16
-- ==== Kernel.lean ====
abbrev S16384x768 : Shape := ⟨2, ![16384, 768]⟩
abbrev S768x512 : Shape := ⟨2, ![768, 512]⟩
abbrev S512 : Shape := ⟨1, ![512]⟩
abbrev S512x256 : Shape := ⟨2, ![512, 256]⟩
abbrev S256 : Shape := ⟨1, ![256]⟩
abbrev S256x64 : Shape := ⟨2, ![256, 64]⟩
abbrev S64 : Shape := ⟨1, ![64]⟩
abbrev S3x1024x64 : Shape := ⟨3, ![3, 1024, 64]⟩
abbrev S1x512 : Shape := ⟨2, ![1, 512]⟩
abbrev S1x256 : Shape := ⟨2, ![1, 256]⟩
abbrev S1x64 : Shape := ⟨2, ![1, 64]⟩
abbrev S16384x3 : Shape := ⟨2, ![16384, 3]⟩
abbrev S16384x64 : Shape := ⟨2, ![16384, 64]⟩
abbrev S2048x768 : Shape := ⟨2, ![2048, 768]⟩
abbrev S2048x3 : Shape := ⟨2, ![2048, 3]⟩
abbrev S2048x64 : Shape := ⟨2, ![2048, 64]⟩
abbrev S3x1x1024 : Shape := ⟨3, ![3, 1, 1024]⟩
abbrev S1x1024x64 : Shape := ⟨3, ![1, 1024, 64]⟩
abbrev S1024x64 : Shape := ⟨2, ![1024, 64]⟩
abbrev S1024 : Shape := ⟨1, ![1024]⟩
abbrev S1024x1 : Shape := ⟨2, ![1024, 1]⟩
abbrev S1x1024 : Shape := ⟨2, ![1, 1024]⟩
abbrev S1x1x1024 : Shape := ⟨3, ![1, 1, 1024]⟩
abbrev S256x1024 : Shape := ⟨2, ![256, 1024]⟩
abbrev S256x768 : Shape := ⟨2, ![256, 768]⟩
abbrev S256x512 : Shape := ⟨2, ![256, 512]⟩
abbrev S256x256 : Shape := ⟨2, ![256, 256]⟩
abbrev S256x1 : Shape := ⟨2, ![256, 1]⟩
abbrev S256x3 : Shape := ⟨2, ![256, 3]⟩

abbrev nBuf : Space → Nat
  | .hbm => 13
  | .vmem => 16
  | .smem => 0
  | _ => 0

abbrev bufTy : (tb : Table) → Fin (tcTables nBuf tb) → BufTy
  | .hbm, ⟨0, _⟩ => ⟨S16384x768, .f32⟩
  | .hbm, ⟨1, _⟩ => ⟨S768x512, .f32⟩
  | .hbm, ⟨2, _⟩ => ⟨S512, .f32⟩
  | .hbm, ⟨3, _⟩ => ⟨S512x256, .f32⟩
  | .hbm, ⟨4, _⟩ => ⟨S256, .f32⟩
  | .hbm, ⟨5, _⟩ => ⟨S256x64, .f32⟩
  | .hbm, ⟨6, _⟩ => ⟨S64, .f32⟩
  | .hbm, ⟨7, _⟩ => ⟨S3x1024x64, .f32⟩
  | .hbm, ⟨8, _⟩ => ⟨S1x512, .f32⟩
  | .hbm, ⟨9, _⟩ => ⟨S1x256, .f32⟩
  | .hbm, ⟨10, _⟩ => ⟨S1x64, .f32⟩
  | .hbm, ⟨11, _⟩ => ⟨S16384x3, .i32⟩
  | .hbm, ⟨12, _⟩ => ⟨S16384x64, .f32⟩
  | .local _ .vmem, ⟨0, _⟩ => ⟨S2048x768, .f32⟩
  | .local _ .vmem, ⟨1, _⟩ => ⟨S2048x768, .f32⟩
  | .local _ .vmem, ⟨2, _⟩ => ⟨S768x512, .f32⟩
  | .local _ .vmem, ⟨3, _⟩ => ⟨S1x512, .f32⟩
  | .local _ .vmem, ⟨4, _⟩ => ⟨S512x256, .f32⟩
  | .local _ .vmem, ⟨5, _⟩ => ⟨S1x256, .f32⟩
  | .local _ .vmem, ⟨6, _⟩ => ⟨S256x64, .f32⟩
  | .local _ .vmem, ⟨7, _⟩ => ⟨S1x64, .f32⟩
  | .local _ .vmem, ⟨8, _⟩ => ⟨S3x1024x64, .f32⟩
  | .local _ .vmem, ⟨9, _⟩ => ⟨S2048x3, .i32⟩
  | .local _ .vmem, ⟨10, _⟩ => ⟨S2048x3, .i32⟩
  | .local _ .vmem, ⟨11, _⟩ => ⟨S2048x64, .f32⟩
  | .local _ .vmem, ⟨12, _⟩ => ⟨S2048x64, .f32⟩
  | .local _ .vmem, ⟨13, _⟩ => ⟨S3x1x1024, .f32⟩
  | .local _ .vmem, ⟨14, _⟩ => ⟨S3x1024x64, .bf16⟩
  | .local _ .vmem, ⟨15, _⟩ => ⟨S3x1024x64, .bf16⟩
  | _, _ => ⟨S16384x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_v0_0 : Ref sig .tc := ⟨.hbm, 11, rfl⟩
abbrev main_v0_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem9_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S3x1024x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S2048x3 .i32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S2048x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ReferenceIdeal.lean ====
abbrev S16384x768 : Shape := ⟨2, ![16384, 768]⟩
abbrev S768x512 : Shape := ⟨2, ![768, 512]⟩
abbrev S512 : Shape := ⟨1, ![512]⟩
abbrev S512x256 : Shape := ⟨2, ![512, 256]⟩
abbrev S256 : Shape := ⟨1, ![256]⟩
abbrev S256x64 : Shape := ⟨2, ![256, 64]⟩
abbrev S64 : Shape := ⟨1, ![64]⟩
abbrev S3x1024x64 : Shape := ⟨3, ![3, 1024, 64]⟩
abbrev S16384x512 : Shape := ⟨2, ![16384, 512]⟩
abbrev S1x512 : Shape := ⟨2, ![1, 512]⟩
abbrev S_ : Shape := ⟨0, ![]⟩
abbrev S16384x256 : Shape := ⟨2, ![16384, 256]⟩
abbrev S1x256 : Shape := ⟨2, ![1, 256]⟩
abbrev S16384x64 : Shape := ⟨2, ![16384, 64]⟩
abbrev S1x64 : Shape := ⟨2, ![1, 64]⟩
abbrev S1x1024x64 : Shape := ⟨3, ![1, 1024, 64]⟩
abbrev S1024x64 : Shape := ⟨2, ![1024, 64]⟩
abbrev S16384 : Shape := ⟨1, ![16384]⟩
abbrev S16384x1 : Shape := ⟨2, ![16384, 1]⟩
abbrev S64x1024 : Shape := ⟨2, ![64, 1024]⟩
abbrev S16384x1024 : Shape := ⟨2, ![16384, 1024]⟩
abbrev S1024 : Shape := ⟨1, ![1024]⟩
abbrev S1x1024 : Shape := ⟨2, ![1, 1024]⟩
abbrev S1 : Shape := ⟨1, ![1]⟩
abbrev S1x1 : Shape := ⟨2, ![1, 1]⟩
abbrev S16384x3 : Shape := ⟨2, ![16384, 3]⟩

abbrev nBuf : Space → Nat
  | .hbm => 179
  | .vmem => 0
  | .smem => 0
  | _ => 0

abbrev hbmTy0_0 (i : Nat) : BufTy := match i % 128 with
  | 0 => ⟨S16384x768, .f32⟩
  | 1 => ⟨S768x512, .f32⟩
  | 2 => ⟨S512, .f32⟩
  | 3 => ⟨S512x256, .f32⟩
  | 4 => ⟨S256, .f32⟩
  | 5 => ⟨S256x64, .f32⟩
  | 6 => ⟨S64, .f32⟩
  | 7 => ⟨S3x1024x64, .f32⟩
  | 8 => ⟨S16384x512, .f32⟩
  | 9 => ⟨S1x512, .f32⟩
  | 10 => ⟨S16384x512, .f32⟩
  | 11 => ⟨S16384x512, .f32⟩
  | 12 => ⟨S_, .f32⟩
  | 13 => ⟨S16384x512, .f32⟩
  | 14 => ⟨S16384x512, .f32⟩
  | 15 => ⟨S16384x256, .f32⟩
  | 16 => ⟨S1x256, .f32⟩
  | 17 => ⟨S16384x256, .f32⟩
  | 18 => ⟨S16384x256, .f32⟩
  | 19 => ⟨S_, .f32⟩
  | 20 => ⟨S16384x256, .f32⟩
  | 21 => ⟨S16384x256, .f32⟩
  | 22 => ⟨S16384x64, .f32⟩
  | 23 => ⟨S1x64, .f32⟩
  | 24 => ⟨S16384x64, .f32⟩
  | 25 => ⟨S16384x64, .f32⟩
  | 26 => ⟨S_, .f32⟩
  | 27 => ⟨S16384x64, .f32⟩
  | 28 => ⟨S1x1024x64, .f32⟩
  | 29 => ⟨S1024x64, .f32⟩
  | 30 => ⟨S16384x64, .f32⟩
  | 31 => ⟨S_, .f32⟩
  | 32 => ⟨S16384, .f32⟩
  | 33 => ⟨S16384x1, .f32⟩
  | 34 => ⟨S64x1024, .f32⟩
  | 35 => ⟨S16384x1024, .f32⟩
  | 36 => ⟨S_, .f32⟩
  | 37 => ⟨S16384x1024, .f32⟩
  | 38 => ⟨S16384x1024, .f32⟩
  | 39 => ⟨S16384x1024, .f32⟩
  | 40 => ⟨S16384x1024, .f32⟩
  | 41 => ⟨S1024x64, .f32⟩
  | 42 => ⟨S_, .f32⟩
  | 43 => ⟨S1024, .f32⟩
  | 44 => ⟨S1x1024, .f32⟩
  | 45 => ⟨S16384x1024, .f32⟩
  | 46 => ⟨S16384x1024, .f32⟩
  | 47 => ⟨S16384x1024, .i32⟩
  | 48 => ⟨S_, .f32⟩
  | 49 => ⟨S_, .i32⟩
  | 50 => ⟨S16384, .f32⟩
  | 51 => ⟨S16384, .i32⟩
  | 52 => ⟨S_, .i32⟩
  | 53 => ⟨S16384, .i32⟩
  | 54 => ⟨S16384, .i1⟩
  | 55 => ⟨S_, .i32⟩
  | 56 => ⟨S16384, .i32⟩
  | 57 => ⟨S16384, .i32⟩
  | 58 => ⟨S16384, .i32⟩
  | 59 => ⟨S16384x1, .i32⟩
  | 60 => ⟨S1, .i32⟩
  | 61 => ⟨S_, .i32⟩
  | 62 => ⟨S16384x1, .i32⟩
  | 63 => ⟨S16384x1, .i1⟩
  | 64 => ⟨S1x1, .i32⟩
  | 65 => ⟨S16384x1, .i32⟩
  | 66 => ⟨S16384x1, .i1⟩
  | 67 => ⟨S16384x1, .i1⟩
  | 68 => ⟨S_, .i1⟩
  | 69 => ⟨S16384, .i1⟩
  | 70 => ⟨S16384x64, .f32⟩
  | 71 => ⟨S16384x64, .i1⟩
  | 72 => ⟨S_, .f32⟩
  | 73 => ⟨S16384x64, .f32⟩
  | 74 => ⟨S16384x64, .f32⟩
  | 75 => ⟨S16384x64, .f32⟩
  | 76 => ⟨S16384x64, .f32⟩
  | 77 => ⟨S1x1024x64, .f32⟩
  | 78 => ⟨S1024x64, .f32⟩
  | 79 => ⟨S16384x64, .f32⟩
  | 80 => ⟨S_, .f32⟩
  | 81 => ⟨S16384, .f32⟩
  | 82 => ⟨S16384x1, .f32⟩
  | 83 => ⟨S64x1024, .f32⟩
  | 84 => ⟨S16384x1024, .f32⟩
  | 85 => ⟨S_, .f32⟩
  | 86 => ⟨S16384x1024, .f32⟩
  | 87 => ⟨S16384x1024, .f32⟩
  | 88 => ⟨S16384x1024, .f32⟩
  | 89 => ⟨S16384x1024, .f32⟩
  | 90 => ⟨S1024x64, .f32⟩
  | 91 => ⟨S_, .f32⟩
  | 92 => ⟨S1024, .f32⟩
  | 93 => ⟨S1x1024, .f32⟩
  | 94 => ⟨S16384x1024, .f32⟩
  | 95 => ⟨S16384x1024, .f32⟩
  | 96 => ⟨S16384x1024, .i32⟩
  | 97 => ⟨S_, .f32⟩
  | 98 => ⟨S_, .i32⟩
  | 99 => ⟨S16384, .f32⟩
  | 100 => ⟨S16384, .i32⟩
  | 101 => ⟨S_, .i32⟩
  | 102 => ⟨S16384, .i32⟩
  | 103 => ⟨S16384, .i1⟩
  | 104 => ⟨S_, .i32⟩
  | 105 => ⟨S16384, .i32⟩
  | 106 => ⟨S16384, .i32⟩
  | 107 => ⟨S16384, .i32⟩
  | 108 => ⟨S16384x1, .i32⟩
  | 109 => ⟨S1, .i32⟩
  | 110 => ⟨S_, .i32⟩
  | 111 => ⟨S16384x1, .i32⟩
  | 112 => ⟨S16384x1, .i1⟩
  | 113 => ⟨S1x1, .i32⟩
  | 114 => ⟨S16384x1, .i32⟩
  | 115 => ⟨S16384x1, .i1⟩
  | 116 => ⟨S16384x1, .i1⟩
  | 117 => ⟨S_, .i1⟩
  | 118 => ⟨S16384, .i1⟩
  | 119 => ⟨S16384x64, .f32⟩
  | 120 => ⟨S16384x64, .i1⟩
  | 121 => ⟨S_, .f32⟩
  | 122 => ⟨S16384x64, .f32⟩
  | 123 => ⟨S16384x64, .f32⟩
  | 124 => ⟨S16384x64, .f32⟩
  | 125 => ⟨S16384x64, .f32⟩
  | 126 => ⟨S1x1024x64, .f32⟩
  | 127 => ⟨S1024x64, .f32⟩
  | _ => ⟨S16384x768, .f32⟩

abbrev hbmTy0_1 (i : Nat) : BufTy := match i % 128 with
  | 0 => ⟨S16384x64, .f32⟩
  | 1 => ⟨S_, .f32⟩
  | 2 => ⟨S16384, .f32⟩
  | 3 => ⟨S16384x1, .f32⟩
  | 4 => ⟨S64x1024, .f32⟩
  | 5 => ⟨S16384x1024, .f32⟩
  | 6 => ⟨S_, .f32⟩
  | 7 => ⟨S16384x1024, .f32⟩
  | 8 => ⟨S16384x1024, .f32⟩
  | 9 => ⟨S16384x1024, .f32⟩
  | 10 => ⟨S16384x1024, .f32⟩
  | 11 => ⟨S1024x64, .f32⟩
  | 12 => ⟨S_, .f32⟩
  | 13 => ⟨S1024, .f32⟩
  | 14 => ⟨S1x1024, .f32⟩
  | 15 => ⟨S16384x1024, .f32⟩
  | 16 => ⟨S16384x1024, .f32⟩
  | 17 => ⟨S16384x1024, .i32⟩
  | 18 => ⟨S_, .f32⟩
  | 19 => ⟨S_, .i32⟩
  | 20 => ⟨S16384, .f32⟩
  | 21 => ⟨S16384, .i32⟩
  | 22 => ⟨S_, .i32⟩
  | 23 => ⟨S16384, .i32⟩
  | 24 => ⟨S16384, .i1⟩
  | 25 => ⟨S_, .i32⟩
  | 26 => ⟨S16384, .i32⟩
  | 27 => ⟨S16384, .i32⟩
  | 28 => ⟨S16384, .i32⟩
  | 29 => ⟨S16384x1, .i32⟩
  | 30 => ⟨S1, .i32⟩
  | 31 => ⟨S_, .i32⟩
  | 32 => ⟨S16384x1, .i32⟩
  | 33 => ⟨S16384x1, .i1⟩
  | 34 => ⟨S1x1, .i32⟩
  | 35 => ⟨S16384x1, .i32⟩
  | 36 => ⟨S16384x1, .i1⟩
  | 37 => ⟨S16384x1, .i1⟩
  | 38 => ⟨S_, .i1⟩
  | 39 => ⟨S16384, .i1⟩
  | 40 => ⟨S16384x64, .f32⟩
  | 41 => ⟨S16384x64, .i1⟩
  | 42 => ⟨S_, .f32⟩
  | 43 => ⟨S16384x64, .f32⟩
  | 44 => ⟨S16384x64, .f32⟩
  | 45 => ⟨S16384x64, .f32⟩
  | 46 => ⟨S16384x64, .f32⟩
  | 47 => ⟨S16384x1, .i32⟩
  | 48 => ⟨S16384x1, .i32⟩
  | 49 => ⟨S16384x1, .i32⟩
  | 50 => ⟨S16384x3, .i32⟩
  | _ => ⟨S16384x768, .f32⟩

abbrev hbmTy (i : Nat) : BufTy := match i / 128 with
  | 0 => hbmTy0_0 i
  | 1 => hbmTy0_1 i
  | _ => ⟨S16384x768, .f32⟩

abbrev bufTy : (tb : Table) → Fin (tcTables nBuf tb) → BufTy
  | .hbm, ⟨i, _⟩ => hbmTy i
  | _, _ => ⟨S16384x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_call0_cst : Ref sig .tc := ⟨.hbm, 12, rfl⟩
abbrev main_call0_v0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_call1_cst : Ref sig .tc := ⟨.hbm, 19, rfl⟩
abbrev main_call1_v0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_0 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_1 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_2 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_call2_v0 : Ref sig .tc := ⟨.hbm, 47, rfl⟩
abbrev main_call2_cst : Ref sig .tc := ⟨.hbm, 48, rfl⟩
abbrev main_call2_c : Ref sig .tc := ⟨.hbm, 49, rfl⟩
abbrev main_call2_v1_0 : Ref sig .tc := ⟨.hbm, 50, rfl⟩
abbrev main_v31 : Ref sig .tc := ⟨.hbm, 51, rfl⟩
abbrev main_call3_c : Ref sig .tc := ⟨.hbm, 52, rfl⟩
abbrev main_call3_v0 : Ref sig .tc := ⟨.hbm, 53, rfl⟩
abbrev main_call3_v1 : Ref sig .tc := ⟨.hbm, 54, rfl⟩
abbrev main_call3_c_0 : Ref sig .tc := ⟨.hbm, 55, rfl⟩
abbrev main_call3_v2 : Ref sig .tc := ⟨.hbm, 56, rfl⟩
abbrev main_call3_v3 : Ref sig .tc := ⟨.hbm, 57, rfl⟩
abbrev main_call3_v4 : Ref sig .tc := ⟨.hbm, 58, rfl⟩
abbrev main_call3_v5 : Ref sig .tc := ⟨.hbm, 59, rfl⟩
abbrev main_call3_c_1 : Ref sig .tc := ⟨.hbm, 60, rfl⟩
abbrev main_call3_c_2 : Ref sig .tc := ⟨.hbm, 61, rfl⟩
abbrev main_call3_v6 : Ref sig .tc := ⟨.hbm, 62, rfl⟩
abbrev main_call3_v7 : Ref sig .tc := ⟨.hbm, 63, rfl⟩
abbrev main_call3_v8 : Ref sig .tc := ⟨.hbm, 64, rfl⟩
abbrev main_call3_v9 : Ref sig .tc := ⟨.hbm, 65, rfl⟩
abbrev main_call3_v10 : Ref sig .tc := ⟨.hbm, 66, rfl⟩
abbrev main_call3_v11 : Ref sig .tc := ⟨.hbm, 67, rfl⟩
abbrev main_call3_c_3 : Ref sig .tc := ⟨.hbm, 68, rfl⟩
abbrev main_call3_v12 : Ref sig .tc := ⟨.hbm, 69, rfl⟩
abbrev main_call3_v13 : Ref sig .tc := ⟨.hbm, 70, rfl⟩
abbrev main_call3_v14 : Ref sig .tc := ⟨.hbm, 71, rfl⟩
abbrev main_call3_cst : Ref sig .tc := ⟨.hbm, 72, rfl⟩
abbrev main_call3_v15 : Ref sig .tc := ⟨.hbm, 73, rfl⟩
abbrev main_v32 : Ref sig .tc := ⟨.hbm, 74, rfl⟩
abbrev main_v33 : Ref sig .tc := ⟨.hbm, 75, rfl⟩
abbrev main_v34 : Ref sig .tc := ⟨.hbm, 76, rfl⟩
abbrev main_v35 : Ref sig .tc := ⟨.hbm, 77, rfl⟩
abbrev main_v36 : Ref sig .tc := ⟨.hbm, 78, rfl⟩
abbrev main_v37 : Ref sig .tc := ⟨.hbm, 79, rfl⟩
abbrev main_cst_3 : Ref sig .tc := ⟨.hbm, 80, rfl⟩
abbrev main_v38 : Ref sig .tc := ⟨.hbm, 81, rfl⟩
abbrev main_v39 : Ref sig .tc := ⟨.hbm, 82, rfl⟩
abbrev main_v40 : Ref sig .tc := ⟨.hbm, 83, rfl⟩
abbrev main_v41 : Ref sig .tc := ⟨.hbm, 84, rfl⟩
abbrev main_cst_4 : Ref sig .tc := ⟨.hbm, 85, rfl⟩
abbrev main_v42 : Ref sig .tc := ⟨.hbm, 86, rfl⟩
abbrev main_v43 : Ref sig .tc := ⟨.hbm, 87, rfl⟩
abbrev main_v44 : Ref sig .tc := ⟨.hbm, 88, rfl⟩
abbrev main_v45 : Ref sig .tc := ⟨.hbm, 89, rfl⟩
abbrev main_v46 : Ref sig .tc := ⟨.hbm, 90, rfl⟩
abbrev main_cst_5 : Ref sig .tc := ⟨.hbm, 91, rfl⟩
abbrev main_v47 : Ref sig .tc := ⟨.hbm, 92, rfl⟩
abbrev main_v48 : Ref sig .tc := ⟨.hbm, 93, rfl⟩
abbrev main_v49 : Ref sig .tc := ⟨.hbm, 94, rfl⟩
abbrev main_v50 : Ref sig .tc := ⟨.hbm, 95, rfl⟩
abbrev main_call4_v0 : Ref sig .tc := ⟨.hbm, 96, rfl⟩
abbrev main_call4_cst : Ref sig .tc := ⟨.hbm, 97, rfl⟩
abbrev main_call4_c : Ref sig .tc := ⟨.hbm, 98, rfl⟩
abbrev main_call4_v1_0 : Ref sig .tc := ⟨.hbm, 99, rfl⟩
abbrev main_v51 : Ref sig .tc := ⟨.hbm, 100, rfl⟩
abbrev main_call5_c : Ref sig .tc := ⟨.hbm, 101, rfl⟩
abbrev main_call5_v0 : Ref sig .tc := ⟨.hbm, 102, rfl⟩
abbrev main_call5_v1 : Ref sig .tc := ⟨.hbm, 103, rfl⟩
abbrev main_call5_c_0 : Ref sig .tc := ⟨.hbm, 104, rfl⟩
abbrev main_call5_v2 : Ref sig .tc := ⟨.hbm, 105, rfl⟩
abbrev main_call5_v3 : Ref sig .tc := ⟨.hbm, 106, rfl⟩
abbrev main_call5_v4 : Ref sig .tc := ⟨.hbm, 107, rfl⟩
abbrev main_call5_v5 : Ref sig .tc := ⟨.hbm, 108, rfl⟩
abbrev main_call5_c_1 : Ref sig .tc := ⟨.hbm, 109, rfl⟩
abbrev main_call5_c_2 : Ref sig .tc := ⟨.hbm, 110, rfl⟩
abbrev main_call5_v6 : Ref sig .tc := ⟨.hbm, 111, rfl⟩
abbrev main_call5_v7 : Ref sig .tc := ⟨.hbm, 112, rfl⟩
abbrev main_call5_v8 : Ref sig .tc := ⟨.hbm, 113, rfl⟩
abbrev main_call5_v9 : Ref sig .tc := ⟨.hbm, 114, rfl⟩
abbrev main_call5_v10 : Ref sig .tc := ⟨.hbm, 115, rfl⟩
abbrev main_call5_v11 : Ref sig .tc := ⟨.hbm, 116, rfl⟩
abbrev main_call5_c_3 : Ref sig .tc := ⟨.hbm, 117, rfl⟩
abbrev main_call5_v12 : Ref sig .tc := ⟨.hbm, 118, rfl⟩
abbrev main_call5_v13 : Ref sig .tc := ⟨.hbm, 119, rfl⟩
abbrev main_call5_v14 : Ref sig .tc := ⟨.hbm, 120, rfl⟩
abbrev main_call5_cst : Ref sig .tc := ⟨.hbm, 121, rfl⟩
abbrev main_call5_v15 : Ref sig .tc := ⟨.hbm, 122, rfl⟩
abbrev main_v52 : Ref sig .tc := ⟨.hbm, 123, rfl⟩
abbrev main_v53 : Ref sig .tc := ⟨.hbm, 124, rfl⟩
abbrev main_v54 : Ref sig .tc := ⟨.hbm, 125, rfl⟩
abbrev main_v55 : Ref sig .tc := ⟨.hbm, 126, rfl⟩
abbrev main_v56 : Ref sig .tc := ⟨.hbm, 127, rfl⟩
abbrev main_v57 : Ref sig .tc := ⟨.hbm, 128, rfl⟩
abbrev main_cst_6 : Ref sig .tc := ⟨.hbm, 129, rfl⟩
abbrev main_v58 : Ref sig .tc := ⟨.hbm, 130, rfl⟩
abbrev main_v59 : Ref sig .tc := ⟨.hbm, 131, rfl⟩
abbrev main_v60 : Ref sig .tc := ⟨.hbm, 132, rfl⟩
abbrev main_v61 : Ref sig .tc := ⟨.hbm, 133, rfl⟩
abbrev main_cst_7 : Ref sig .tc := ⟨.hbm, 134, rfl⟩
abbrev main_v62 : Ref sig .tc := ⟨.hbm, 135, rfl⟩
abbrev main_v63 : Ref sig .tc := ⟨.hbm, 136, rfl⟩
abbrev main_v64 : Ref sig .tc := ⟨.hbm, 137, rfl⟩
abbrev main_v65 : Ref sig .tc := ⟨.hbm, 138, rfl⟩
abbrev main_v66 : Ref sig .tc := ⟨.hbm, 139, rfl⟩
abbrev main_cst_8 : Ref sig .tc := ⟨.hbm, 140, rfl⟩
abbrev main_v67 : Ref sig .tc := ⟨.hbm, 141, rfl⟩
abbrev main_v68 : Ref sig .tc := ⟨.hbm, 142, rfl⟩
abbrev main_v69 : Ref sig .tc := ⟨.hbm, 143, rfl⟩
abbrev main_v70 : Ref sig .tc := ⟨.hbm, 144, rfl⟩
abbrev main_call6_v0 : Ref sig .tc := ⟨.hbm, 145, rfl⟩
abbrev main_call6_cst : Ref sig .tc := ⟨.hbm, 146, rfl⟩
abbrev main_call6_c : Ref sig .tc := ⟨.hbm, 147, rfl⟩
abbrev main_call6_v1_0 : Ref sig .tc := ⟨.hbm, 148, rfl⟩
abbrev main_v71 : Ref sig .tc := ⟨.hbm, 149, rfl⟩
abbrev main_call7_c : Ref sig .tc := ⟨.hbm, 150, rfl⟩
abbrev main_call7_v0 : Ref sig .tc := ⟨.hbm, 151, rfl⟩
abbrev main_call7_v1 : Ref sig .tc := ⟨.hbm, 152, rfl⟩
abbrev main_call7_c_0 : Ref sig .tc := ⟨.hbm, 153, rfl⟩
abbrev main_call7_v2 : Ref sig .tc := ⟨.hbm, 154, rfl⟩
abbrev main_call7_v3 : Ref sig .tc := ⟨.hbm, 155, rfl⟩
abbrev main_call7_v4 : Ref sig .tc := ⟨.hbm, 156, rfl⟩
abbrev main_call7_v5 : Ref sig .tc := ⟨.hbm, 157, rfl⟩
abbrev main_call7_c_1 : Ref sig .tc := ⟨.hbm, 158, rfl⟩
abbrev main_call7_c_2 : Ref sig .tc := ⟨.hbm, 159, rfl⟩
abbrev main_call7_v6 : Ref sig .tc := ⟨.hbm, 160, rfl⟩
abbrev main_call7_v7 : Ref sig .tc := ⟨.hbm, 161, rfl⟩
abbrev main_call7_v8 : Ref sig .tc := ⟨.hbm, 162, rfl⟩
abbrev main_call7_v9 : Ref sig .tc := ⟨.hbm, 163, rfl⟩
abbrev main_call7_v10 : Ref sig .tc := ⟨.hbm, 164, rfl⟩
abbrev main_call7_v11 : Ref sig .tc := ⟨.hbm, 165, rfl⟩
abbrev main_call7_c_3 : Ref sig .tc := ⟨.hbm, 166, rfl⟩
abbrev main_call7_v12 : Ref sig .tc := ⟨.hbm, 167, rfl⟩
abbrev main_call7_v13 : Ref sig .tc := ⟨.hbm, 168, rfl⟩
abbrev main_call7_v14 : Ref sig .tc := ⟨.hbm, 169, rfl⟩
abbrev main_call7_cst : Ref sig .tc := ⟨.hbm, 170, rfl⟩
abbrev main_call7_v15 : Ref sig .tc := ⟨.hbm, 171, rfl⟩
abbrev main_v72 : Ref sig .tc := ⟨.hbm, 172, rfl⟩
abbrev main_v73 : Ref sig .tc := ⟨.hbm, 173, rfl⟩
abbrev main_v74 : Ref sig .tc := ⟨.hbm, 174, rfl⟩
abbrev main_v75 : Ref sig .tc := ⟨.hbm, 175, rfl⟩
abbrev main_v76 : Ref sig .tc := ⟨.hbm, 176, rfl⟩
abbrev main_v77 : Ref sig .tc := ⟨.hbm, 177, rfl⟩
abbrev main_v78 : Ref sig .tc := ⟨.hbm, 178, rfl⟩

abbrev nD : Nat := 1
abbrev τ : Topo := Topo.v7x

variable {F : FTy → Type} [FloatOps F]
-- ==== Proof.RefOps.lean ====
/-
  The reference's host program as a list of its operations, in the order in which it runs them, cut into windows: the encoder,
  then for each of the three codebooks the distances and numbers (A), the rows taken (B) and the two running sums (C), and at the
  end the numbers put side by side. Each window comes with the references that it writes.
-/
module

public import proofs.«01_k».proof.Proof.Gen.ReferenceIdeal
public import Idealize.ShloMosaic.Lib.StableHlo.Run
public import Idealize.ShloMosaic.Lib.Pipeline.Frame

@[expose] public section

set_option maxRecDepth 16384

noncomputable section

namespace Cert.Proof.Ref

open Cert.ReferenceIdeal Cert.ReferenceIdeal.Gen
open Idealize.ShloMosaic Idealize.ShloMosaic.TcCoe Idealize.SL.Sem Idealize.ShloMosaic.StableHlo

variable {F : FTy → Type} [FloatOps F]

/-- Three columns side by side. -/
def threeColumns (a b c : IVec S16384x1 32) : IVec S16384x3 32 :=
  concatenate S16384x3 1 [⟨S16384x1, a⟩, ⟨S16384x1, b⟩, ⟨S16384x1, c⟩] concatenates_S16384x1_S16384x1_S16384x1_S16384x3_d1

/-- Operations of the encoder: three dense layers, and the zero `quant` starts from. -/
abbrev opsMlp : List (HloOp τ sig (Elt F)) :=
  [ binary main_arg0 main_arg1 main_v0 ((fun l r => Host.dotGeneral dot_S16384x768_S768x512_S16384x512_1_0_0_1_n_n none l r) : (⟨S16384x768, .f32⟩ : BufTy).Contents (Elt F) → (⟨S768x512, .f32⟩ : BufTy).Contents (Elt F) → (⟨S16384x512, .f32⟩ : BufTy).Contents (Elt F)),
    unary main_arg2 main_v1 (broadcastInDim S1x512 ![1] bcast_S512_S1x512_1 : (⟨S512, .f32⟩ : BufTy).Contents (Elt F) → (⟨S1x512, .f32⟩ : BufTy).Contents (Elt F)),
    unary main_v1 main_v2 (broadcastInDim S16384x512 ![0, 1] bcast_S1x512_S16384x512_0_1 : (⟨S1x512, .f32⟩ : BufTy).Contents (Elt F) → (⟨S16384x512, .f32⟩ : BufTy).Contents (Elt F)),
    binary main_v0 main_v2 main_v3 (addf : (⟨S16384x512, .f32⟩ : BufTy).Contents (Elt F) → (⟨S16384x512, .f32⟩ : BufTy).Contents (Elt F) → (⟨S16384x512, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S16384x512, .f32⟩) main_call0_v0) (broadcastInDim S16384x512 ![] bcast_S_S16384x512),
    TRef.binary (TRef.of (T := ⟨S16384x512, .f32⟩) main_v3) (TRef.of (T := ⟨S16384x512, .f32⟩) main_call0_v0) (TRef.of (T := ⟨S16384x512, .f32⟩) main_v4) maximumf,
    binary main_v4 main_arg3 main_v5 ((fun l r => Host.dotGeneral dot_S16384x512_S512x256_S16384x256_1_0_0_1_n_n none l r) : (⟨S16384x512, .f32⟩ : BufTy).Contents (Elt F) → (⟨S512x256, .f32⟩ : BufTy).Contents (Elt F) → (⟨S16384x256, .f32⟩ : BufTy).Contents (Elt F)),
    unary main_arg4 main_v6 (broadcastInDim S1x256 ![1] bcast_S256_S1x256_1 : (⟨S256, .f32⟩ : BufTy).Contents (Elt F) → (⟨S1x256, .f32⟩ : BufTy).Contents (Elt F)),
    unary main_v6 main_v7 (broadcastInDim S16384x256 ![0, 1] bcast_S1x256_S16384x256_0_1 : (⟨S1x256, .f32⟩ : BufTy).Contents (Elt F) → (⟨S16384x256, .f32⟩ : BufTy).Contents (Elt F)),
    binary main_v5 main_v7 main_v8 (addf : (⟨S16384x256, .f32⟩ : BufTy).Contents (Elt F) → (⟨S16384x256, .f32⟩ : BufTy).Contents (Elt F) → (⟨S16384x256, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S16384x256, .f32⟩) main_call1_v0) (broadcastInDim S16384x256 ![] bcast_S_S16384x256),
    TRef.binary (TRef.of (T := ⟨S16384x256, .f32⟩) main_v8) (TRef.of (T := ⟨S16384x256, .f32⟩) main_call1_v0) (TRef.of (T := ⟨S16384x256, .f32⟩) main_v9) maximumf,
    binary main_v9 main_arg5 main_v10 ((fun l r => Host.dotGeneral dot_S16384x256_S256x64_S16384x64_1_0_0_1_n_n none l r) : (⟨S16384x256, .f32⟩ : BufTy).Contents (Elt F) → (⟨S256x64, .f32⟩ : BufTy).Contents (Elt F) → (⟨S16384x64, .f32⟩ : BufTy).Contents (Elt F)),
    unary main_arg6 main_v11 (broadcastInDim S1x64 ![1] bcast_S64_S1x64_1 : (⟨S64, .f32⟩ : BufTy).Contents (Elt F) → (⟨S1x64, .f32⟩ : BufTy).Contents (Elt F)),
    unary main_v11 main_v12 (broadcastInDim S16384x64 ![0, 1] bcast_S1x64_S16384x64_0_1 : (⟨S1x64, .f32⟩ : BufTy).Contents (Elt F) → (⟨S16384x64, .f32⟩ : BufTy).Contents (Elt F)),
    binary main_v10 main_v12 main_v13 (addf : (⟨S16384x64, .f32⟩ : BufTy).Contents (Elt F) → (⟨S16384x64, .f32⟩ : BufTy).Contents (Elt F) → (⟨S16384x64, .f32⟩ : BufTy).Contents (Elt F)),
    nullary main_cst (constant S_ .f32 0x00000000#32),
    unary main_cst main_v14 (broadcastInDim S16384x64 ![] bcast_S_S16384x64 : (⟨S_, .f32⟩ : BufTy).Contents (Elt F) → (⟨S16384x64, .f32⟩ : BufTy).Contents (Elt F)) ]

/-- What `opsMlp` writes. -/
abbrev writtenMlp : List (Ref sig .tc) :=
  [main_v0, main_v1, main_v2, main_v3, main_call0_cst, main_call0_v0, main_v4, main_v5, main_v6, main_v7, main_v8, main_call1_cst, main_call1_v0, main_v9, main_v10, main_v11, main_v12, main_v13, main_cst, main_v14]

/-- Operations of level 0: the codebook, the distances and the nearest row's number. -/
abbrev opsA0 : List (HloOp τ sig (Elt F)) :=
  [ unary main_arg7 main_v15 ((extractStridedSlice S1x1024x64 ![0, 0, 0] · slices_S3x1024x64_S1x1024x64_0_0_0) : (⟨S3x1024x64, .f32⟩ : BufTy).Contents (Elt F) → (⟨S1x1024x64, .f32⟩ : BufTy).Contents (Elt F)),
    reshape main_v15 main_v16 (rfl : (.f32 : EltTy) = .f32) shapeCasts_S1x1024x64_S1024x64,
    binary main_v13 main_v13 main_v17 (mulf : (⟨S16384x64, .f32⟩ : BufTy).Contents (Elt F) → (⟨S16384x64, .f32⟩ : BufTy).Contents (Elt F) → (⟨S16384x64, .f32⟩ : BufTy).Contents (Elt F)),
    nullary main_cst_0 (constant S_ .f32 0x00000000#32),
    binary main_v17 main_cst_0 main_v18 ((fun x v => Host.reduceAdd x v reducesTo_S16384x64_S16384_d1 h_S_) : (⟨S16384x64, .f32⟩ : BufTy).Contents (Elt F) → (⟨S_, .f32⟩ : BufTy).Contents (Elt F) → (⟨S16384, .f32⟩ : BufTy).Contents (Elt F)),
    unary main_v18 main_v19 (broadcastInDim S16384x1 ![0] bcast_S16384_S16384x1_0 : (⟨S16384, .f32⟩ : BufTy).Contents (Elt F) → (⟨S16384x1, .f32⟩ : BufTy).Contents (Elt F)),
    unary main_v16 main_v20 ((transpose S64x1024 [1, 0] · transposes_S1024x64_S64x1024_1_0) : (⟨S1024x64, .f32⟩ : BufTy).Contents (Elt F) → (⟨S64x1024, .f32⟩ : BufTy).Contents (Elt F)),
    binary main_v13 main_v20 main_v21 ((fun l r => Host.dotGeneral dot_S16384x64_S64x1024_S16384x1024_1_0_0_1_n_n none l r) : (⟨S16384x64, .f32⟩ : BufTy).Contents (Elt F) → (⟨S64x1024, .f32⟩ : BufTy).Contents (Elt F) → (⟨S16384x1024, .f32⟩ : BufTy).Contents (Elt F)),
    nullary main_cst_1 (constant S_ .f32 0x40000000#32),
    unary main_cst_1 main_v22 (broadcastInDim S16384x1024 ![] bcast_S_S16384x1024 : (⟨S_, .f32⟩ : BufTy).Contents (Elt F) → (⟨S16384x1024, .f32⟩ : BufTy).Contents (Elt F)),
    binary main_v22 main_v21 main_v23 (mulf : (⟨S16384x1024, .f32⟩ : BufTy).Contents (Elt F) → (⟨S16384x1024, .f32⟩ : BufTy).Contents (Elt F) → (⟨S16384x1024, .f32⟩ : BufTy).Contents (Elt F)),
    unary main_v19 main_v24 (broadcastInDim S16384x1024 ![0, 1] bcast_S16384x1_S16384x1024_0_1 : (⟨S16384x1, .f32⟩ : BufTy).Contents (Elt F) → (⟨S16384x1024, .f32⟩ : BufTy).Contents (Elt F)),
    binary main_v24 main_v23 main_v25 (subf : (⟨S16384x1024, .f32⟩ : BufTy).Contents (Elt F) → (⟨S16384x1024, .f32⟩ : BufTy).Contents (Elt F) → (⟨S16384x1024, .f32⟩ : BufTy).Contents (Elt F)),
    binary main_v16 main_v16 main_v26 (mulf : (⟨S1024x64, .f32⟩ : BufTy).Contents (Elt F) → (⟨S1024x64, .f32⟩ : BufTy).Contents (Elt F) → (⟨S1024x64, .f32⟩ : BufTy).Contents (Elt F)),
    nullary main_cst_2 (constant S_ .f32 0x00000000#32),
    binary main_v26 main_cst_2 main_v27 ((fun x v => Host.reduceAdd x v reducesTo_S1024x64_S1024_d1 h_S_) : (⟨S1024x64, .f32⟩ : BufTy).Contents (Elt F) → (⟨S_, .f32⟩ : BufTy).Contents (Elt F) → (⟨S1024, .f32⟩ : BufTy).Contents (Elt F)),
    unary main_v27 main_v28 (broadcastInDim S1x1024 ![1] bcast_S1024_S1x1024_1 : (⟨S1024, .f32⟩ : BufTy).Contents (Elt F) → (⟨S1x1024, .f32⟩ : BufTy).Contents (Elt F)),
    unary main_v28 main_v29 (broadcastInDim S16384x1024 ![0, 1] bcast_S1x1024_S16384x1024_0_1 : (⟨S1x1024, .f32⟩ : BufTy).Contents (Elt F) → (⟨S16384x1024, .f32⟩ : BufTy).Contents (Elt F)),
    binary main_v25 main_v29 main_v30 (addf : (⟨S16384x1024, .f32⟩ : BufTy).Contents (Elt F) → (⟨S16384x1024, .f32⟩ : BufTy).Contents (Elt F) → (⟨S16384x1024, .f32⟩ : BufTy).Contents (Elt F)),
    TRef.nullary (TRef.of (T := ⟨S16384x1024, .i32⟩) main_call2_v0) (iotaInDim S16384x1024 32 1),
    TRef.nullary (TRef.of (T := ⟨S_, .f32⟩) main_call2_cst) (constant S_ .f32 0x7F800000#32),
    TRef.nullary (TRef.of (T := ⟨S_, .i32⟩) main_call2_c) (constantI S_ 32 0#32),
    TRef.quaternary (TRef.of (T := ⟨S16384x1024, .f32⟩) main_v30) (TRef.of (T := ⟨S16384x1024, .i32⟩) main_call2_v0) (TRef.of (T := ⟨S_, .f32⟩) main_call2_cst) (TRef.of (T := ⟨S_, .i32⟩) main_call2_c) (TRef.of (T := ⟨S16384, .f32⟩) main_call2_v1_0) (fun x y u v j => (Host.argReduce reducer_argmin_f32_i32 x y u v reducesTo_S16384x1024_S16384_d1 h_S_ j).1),
    TRef.quaternary (TRef.of (T := ⟨S16384x1024, .f32⟩) main_v30) (TRef.of (T := ⟨S16384x1024, .i32⟩) main_call2_v0) (TRef.of (T := ⟨S_, .f32⟩) main_call2_cst) (TRef.of (T := ⟨S_, .i32⟩) main_call2_c) (TRef.of (T := ⟨S16384, .i32⟩) main_v31) (fun x y u v j => (Host.argReduce reducer_argmin_f32_i32 x y u v reducesTo_S16384x1024_S16384_d1 h_S_ j).2) ]

/-- What `opsA0` writes. -/
abbrev writtenA0 : List (Ref sig .tc) :=
  [main_v15, main_v16, main_v17, main_cst_0, main_v18, main_v19, main_v20, main_v21, main_cst_1, main_v22, main_v23, main_v24, main_v25, main_v26, main_cst_2, main_v27, main_v28, main_v29, main_v30, main_call2_v0, main_call2_cst, main_call2_c, main_call2_v1_0, main_v31]

/-- Operations of level 0: the codebook's rows at those numbers. -/
abbrev opsB0 : List (HloOp τ sig (Elt F)) :=
  [ TRef.nullary (TRef.of (T := ⟨S_, .i32⟩) main_call3_c) (constantI S_ 32 0#32),
    TRef.unary (TRef.of (T := ⟨S_, .i32⟩) main_call3_c) (TRef.of (T := ⟨S16384, .i32⟩) main_call3_v0) (broadcastInDim S16384 ![] bcast_S_S16384),
    TRef.binary (TRef.of (T := ⟨S16384, .i32⟩) main_v31) (TRef.of (T := ⟨S16384, .i32⟩) main_call3_v0) (TRef.of (T := ⟨S16384, .i1⟩) main_call3_v1) (cmpi .slt),
    TRef.nullary (TRef.of (T := ⟨S_, .i32⟩) main_call3_c_0) (constantI S_ 32 1024#32),
    TRef.unary (TRef.of (T := ⟨S_, .i32⟩) main_call3_c_0) (TRef.of (T := ⟨S16384, .i32⟩) main_call3_v2) (broadcastInDim S16384 ![] bcast_S_S16384),
    TRef.binary (TRef.of (T := ⟨S16384, .i32⟩) main_v31) (TRef.of (T := ⟨S16384, .i32⟩) main_call3_v2) (TRef.of (T := ⟨S16384, .i32⟩) main_call3_v3) addi,
    TRef.ternary (TRef.of (T := ⟨S16384, .i1⟩) main_call3_v1) (TRef.of (T := ⟨S16384, .i32⟩) main_call3_v3) (TRef.of (T := ⟨S16384, .i32⟩) main_v31) (TRef.of (T := ⟨S16384, .i32⟩) main_call3_v4) select,
    TRef.unary (TRef.of (T := ⟨S16384, .i32⟩) main_call3_v4) (TRef.of (T := ⟨S16384x1, .i32⟩) main_call3_v5) (broadcastInDim S16384x1 ![0] bcast_S16384_S16384x1_0),
    TRef.nullary (TRef.of (T := ⟨S1, .i32⟩) main_call3_c_1) (constantI S1 32 1023#32),
    TRef.nullary (TRef.of (T := ⟨S_, .i32⟩) main_call3_c_2) (constantI S_ 32 0#32),
    TRef.unary (TRef.of (T := ⟨S_, .i32⟩) main_call3_c_2) (TRef.of (T := ⟨S16384x1, .i32⟩) main_call3_v6) (broadcastInDim S16384x1 ![] bcast_S_S16384x1),
    TRef.binary (TRef.of (T := ⟨S16384x1, .i32⟩) main_call3_v5) (TRef.of (T := ⟨S16384x1, .i32⟩) main_call3_v6) (TRef.of (T := ⟨S16384x1, .i1⟩) main_call3_v7) (cmpi .sge),
    TRef.unary (TRef.of (T := ⟨S1, .i32⟩) main_call3_c_1) (TRef.of (T := ⟨S1x1, .i32⟩) main_call3_v8) (broadcastInDim S1x1 ![1] bcast_S1_S1x1_1),
    TRef.unary (TRef.of (T := ⟨S1x1, .i32⟩) main_call3_v8) (TRef.of (T := ⟨S16384x1, .i32⟩) main_call3_v9) (broadcastInDim S16384x1 ![0, 1] bcast_S1x1_S16384x1_0_1),
    TRef.binary (TRef.of (T := ⟨S16384x1, .i32⟩) main_call3_v5) (TRef.of (T := ⟨S16384x1, .i32⟩) main_call3_v9) (TRef.of (T := ⟨S16384x1, .i1⟩) main_call3_v10) (cmpi .sle),
    TRef.binary (TRef.of (T := ⟨S16384x1, .i1⟩) main_call3_v7) (TRef.of (T := ⟨S16384x1, .i1⟩) main_call3_v10) (TRef.of (T := ⟨S16384x1, .i1⟩) main_call3_v11) andi,
    TRef.nullary (TRef.of (T := ⟨S_, .i1⟩) main_call3_c_3) (constantI S_ 1 1#1),
    TRef.binary (TRef.of (T := ⟨S16384x1, .i1⟩) main_call3_v11) (TRef.of (T := ⟨S_, .i1⟩) main_call3_c_3) (TRef.of (T := ⟨S16384, .i1⟩) main_call3_v12) (fun x v => Host.reduce IntOp.andi x v reducesTo_S16384x1_S16384_d1 h_S_),
    TRef.binary (TRef.of (T := ⟨S1024x64, .f32⟩) main_v16) (TRef.of (T := ⟨S16384x1, .i32⟩) main_call3_v5) (TRef.of (T := ⟨S16384x64, .f32⟩) main_call3_v13) (fun x i => Host.gather gather_S1024x64_S16384x1_S16384x64_1_0_n_n_0_1_164 x i),
    TRef.unary (TRef.of (T := ⟨S16384, .i1⟩) main_call3_v12) (TRef.of (T := ⟨S16384x64, .i1⟩) main_call3_v14) (broadcastInDim S16384x64 ![0] bcast_S16384_S16384x64_0),
    TRef.nullary (TRef.of (T := ⟨S_, .f32⟩) main_call3_cst) (constant S_ .f32 0x7FC00000#32),
    TRef.unary (TRef.of (T := ⟨S_, .f32⟩) main_call3_cst) (TRef.of (T := ⟨S16384x64, .f32⟩) main_call3_v15) (broadcastInDim S16384x64 ![] bcast_S_S16384x64),
    TRef.ternary (TRef.of (T := ⟨S16384x64, .i1⟩) main_call3_v14) (TRef.of (T := ⟨S16384x64, .f32⟩) main_call3_v13) (TRef.of (T := ⟨S16384x64, .f32⟩) main_call3_v15) (TRef.of (T := ⟨S16384x64, .f32⟩) main_v32) select ]

/-- What `opsB0` writes. -/
abbrev writtenB0 : List (Ref sig .tc) :=
  [main_call3_c, main_call3_v0, main_call3_v1, main_call3_c_0, main_call3_v2, main_call3_v3, main_call3_v4, main_call3_v5, main_call3_c_1, main_call3_c_2, main_call3_v6, main_call3_v7, main_call3_v8, main_call3_v9, main_call3_v10, main_call3_v11, main_call3_c_3, main_call3_v12, main_call3_v13, main_call3_v14, main_call3_cst, main_call3_v15, main_v32]

/-- Operations of level 0: the rows added to `quant` and taken from the residual. -/
abbrev opsC0 : List (HloOp τ sig (Elt F)) :=
  [ binary main_v14 main_v32 main_v33 (addf : (⟨S16384x64, .f32⟩ : BufTy).Contents (Elt F) → (⟨S16384x64, .f32⟩ : BufTy).Contents (Elt F) → (⟨S16384x64, .f32⟩ : BufTy).Contents (Elt F)),
    binary main_v13 main_v32 main_v34 (subf : (⟨S16384x64, .f32⟩ : BufTy).Contents (Elt F) → (⟨S16384x64, .f32⟩ : BufTy).Contents (Elt F) → (⟨S16384x64, .f32⟩ : BufTy).Contents (Elt F)) ]

/-- What `opsC0` writes. -/
abbrev writtenC0 : List (Ref sig .tc) :=
  [main_v33, main_v34]

/-- Operations of level 1: distances and numbers. -/
abbrev opsA1 : List (HloOp τ sig (Elt F)) :=
  [ unary main_arg7 main_v35 ((extractStridedSlice S1x1024x64 ![1, 0, 0] · slices_S3x1024x64_S1x1024x64_1_0_0) : (⟨S3x1024x64, .f32⟩ : BufTy).Contents (Elt F) → (⟨S1x1024x64, .f32⟩ : BufTy).Contents (Elt F)),
    reshape main_v35 main_v36 (rfl : (.f32 : EltTy) = .f32) shapeCasts_S1x1024x64_S1024x64,
    binary main_v34 main_v34 main_v37 (mulf : (⟨S16384x64, .f32⟩ : BufTy).Contents (Elt F) → (⟨S16384x64, .f32⟩ : BufTy).Contents (Elt F) → (⟨S16384x64, .f32⟩ : BufTy).Contents (Elt F)),
    nullary main_cst_3 (constant S_ .f32 0x00000000#32),
    binary main_v37 main_cst_3 main_v38 ((fun x v => Host.reduceAdd x v reducesTo_S16384x64_S16384_d1 h_S_) : (⟨S16384x64, .f32⟩ : BufTy).Contents (Elt F) → (⟨S_, .f32⟩ : BufTy).Contents (Elt F) → (⟨S16384, .f32⟩ : BufTy).Contents (Elt F)),
    unary main_v38 main_v39 (broadcastInDim S16384x1 ![0] bcast_S16384_S16384x1_0 : (⟨S16384, .f32⟩ : BufTy).Contents (Elt F) → (⟨S16384x1, .f32⟩ : BufTy).Contents (Elt F)),
    unary main_v36 main_v40 ((transpose S64x1024 [1, 0] · transposes_S1024x64_S64x1024_1_0) : (⟨S1024x64, .f32⟩ : BufTy).Contents (Elt F) → (⟨S64x1024, .f32⟩ : BufTy).Contents (Elt F)),
    binary main_v34 main_v40 main_v41 ((fun l r => Host.dotGeneral dot_S16384x64_S64x1024_S16384x1024_1_0_0_1_n_n none l r) : (⟨S16384x64, .f32⟩ : BufTy).Contents (Elt F) → (⟨S64x1024, .f32⟩ : BufTy).Contents (Elt F) → (⟨S16384x1024, .f32⟩ : BufTy).Contents (Elt F)),
    nullary main_cst_4 (constant S_ .f32 0x40000000#32),
    unary main_cst_4 main_v42 (broadcastInDim S16384x1024 ![] bcast_S_S16384x1024 : (⟨S_, .f32⟩ : BufTy).Contents (Elt F) → (⟨S16384x1024, .f32⟩ : BufTy).Contents (Elt F)),
    binary main_v42 main_v41 main_v43 (mulf : (⟨S16384x1024, .f32⟩ : BufTy).Contents (Elt F) → (⟨S16384x1024, .f32⟩ : BufTy).Contents (Elt F) → (⟨S16384x1024, .f32⟩ : BufTy).Contents (Elt F)),
    unary main_v39 main_v44 (broadcastInDim S16384x1024 ![0, 1] bcast_S16384x1_S16384x1024_0_1 : (⟨S16384x1, .f32⟩ : BufTy).Contents (Elt F) → (⟨S16384x1024, .f32⟩ : BufTy).Contents (Elt F)),
    binary main_v44 main_v43 main_v45 (subf : (⟨S16384x1024, .f32⟩ : BufTy).Contents (Elt F) → (⟨S16384x1024, .f32⟩ : BufTy).Contents (Elt F) → (⟨S16384x1024, .f32⟩ : BufTy).Contents (Elt F)),
    binary main_v36 main_v36 main_v46 (mulf : (⟨S1024x64, .f32⟩ : BufTy).Contents (Elt F) → (⟨S1024x64, .f32⟩ : BufTy).Contents (Elt F) → (⟨S1024x64, .f32⟩ : BufTy).Contents (Elt F)),
    nullary main_cst_5 (constant S_ .f32 0x00000000#32),
    binary main_v46 main_cst_5 main_v47 ((fun x v => Host.reduceAdd x v reducesTo_S1024x64_S1024_d1 h_S_) : (⟨S1024x64, .f32⟩ : BufTy).Contents (Elt F) → (⟨S_, .f32⟩ : BufTy).Contents (Elt F) → (⟨S1024, .f32⟩ : BufTy).Contents (Elt F)),
    unary main_v47 main_v48 (broadcastInDim S1x1024 ![1] bcast_S1024_S1x1024_1 : (⟨S1024, .f32⟩ : BufTy).Contents (Elt F) → (⟨S1x1024, .f32⟩ : BufTy).Contents (Elt F)),
    unary main_v48 main_v49 (broadcastInDim S16384x1024 ![0, 1] bcast_S1x1024_S16384x1024_0_1 : (⟨S1x1024, .f32⟩ : BufTy).Contents (Elt F) → (⟨S16384x1024, .f32⟩ : BufTy).Contents (Elt F)),
    binary main_v45 main_v49 main_v50 (addf : (⟨S16384x1024, .f32⟩ : BufTy).Contents (Elt F) → (⟨S16384x1024, .f32⟩ : BufTy).Contents (Elt F) → (⟨S16384x1024, .f32⟩ : BufTy).Contents (Elt F)),
    TRef.nullary (TRef.of (T := ⟨S16384x1024, .i32⟩) main_call4_v0) (iotaInDim S16384x1024 32 1),
    TRef.nullary (TRef.of (T := ⟨S_, .f32⟩) main_call4_cst) (constant S_ .f32 0x7F800000#32),
    TRef.nullary (TRef.of (T := ⟨S_, .i32⟩) main_call4_c) (constantI S_ 32 0#32),
    TRef.quaternary (TRef.of (T := ⟨S16384x1024, .f32⟩) main_v50) (TRef.of (T := ⟨S16384x1024, .i32⟩) main_call4_v0) (TRef.of (T := ⟨S_, .f32⟩) main_call4_cst) (TRef.of (T := ⟨S_, .i32⟩) main_call4_c) (TRef.of (T := ⟨S16384, .f32⟩) main_call4_v1_0) (fun x y u v j => (Host.argReduce reducer_argmin_f32_i32 x y u v reducesTo_S16384x1024_S16384_d1 h_S_ j).1),
    TRef.quaternary (TRef.of (T := ⟨S16384x1024, .f32⟩) main_v50) (TRef.of (T := ⟨S16384x1024, .i32⟩) main_call4_v0) (TRef.of (T := ⟨S_, .f32⟩) main_call4_cst) (TRef.of (T := ⟨S_, .i32⟩) main_call4_c) (TRef.of (T := ⟨S16384, .i32⟩) main_v51) (fun x y u v j => (Host.argReduce reducer_argmin_f32_i32 x y u v reducesTo_S16384x1024_S16384_d1 h_S_ j).2) ]

/-- What `opsA1` writes. -/
abbrev writtenA1 : List (Ref sig .tc) :=
  [main_v35, main_v36, main_v37, main_cst_3, main_v38, main_v39, main_v40, main_v41, main_cst_4, main_v42, main_v43, main_v44, main_v45, main_v46, main_cst_5, main_v47, main_v48, main_v49, main_v50, main_call4_v0, main_call4_cst, main_call4_c, main_call4_v1_0, main_v51]

/-- Operations of level 1: rows. -/
abbrev opsB1 : List (HloOp τ sig (Elt F)) :=
  [ TRef.nullary (TRef.of (T := ⟨S_, .i32⟩) main_call5_c) (constantI S_ 32 0#32),
    TRef.unary (TRef.of (T := ⟨S_, .i32⟩) main_call5_c) (TRef.of (T := ⟨S16384, .i32⟩) main_call5_v0) (broadcastInDim S16384 ![] bcast_S_S16384),
    TRef.binary (TRef.of (T := ⟨S16384, .i32⟩) main_v51) (TRef.of (T := ⟨S16384, .i32⟩) main_call5_v0) (TRef.of (T := ⟨S16384, .i1⟩) main_call5_v1) (cmpi .slt),
    TRef.nullary (TRef.of (T := ⟨S_, .i32⟩) main_call5_c_0) (constantI S_ 32 1024#32),
    TRef.unary (TRef.of (T := ⟨S_, .i32⟩) main_call5_c_0) (TRef.of (T := ⟨S16384, .i32⟩) main_call5_v2) (broadcastInDim S16384 ![] bcast_S_S16384),
    TRef.binary (TRef.of (T := ⟨S16384, .i32⟩) main_v51) (TRef.of (T := ⟨S16384, .i32⟩) main_call5_v2) (TRef.of (T := ⟨S16384, .i32⟩) main_call5_v3) addi,
    TRef.ternary (TRef.of (T := ⟨S16384, .i1⟩) main_call5_v1) (TRef.of (T := ⟨S16384, .i32⟩) main_call5_v3) (TRef.of (T := ⟨S16384, .i32⟩) main_v51) (TRef.of (T := ⟨S16384, .i32⟩) main_call5_v4) select,
    TRef.unary (TRef.of (T := ⟨S16384, .i32⟩) main_call5_v4) (TRef.of (T := ⟨S16384x1, .i32⟩) main_call5_v5) (broadcastInDim S16384x1 ![0] bcast_S16384_S16384x1_0),
    TRef.nullary (TRef.of (T := ⟨S1, .i32⟩) main_call5_c_1) (constantI S1 32 1023#32),
    TRef.nullary (TRef.of (T := ⟨S_, .i32⟩) main_call5_c_2) (constantI S_ 32 0#32),
    TRef.unary (TRef.of (T := ⟨S_, .i32⟩) main_call5_c_2) (TRef.of (T := ⟨S16384x1, .i32⟩) main_call5_v6) (broadcastInDim S16384x1 ![] bcast_S_S16384x1),
    TRef.binary (TRef.of (T := ⟨S16384x1, .i32⟩) main_call5_v5) (TRef.of (T := ⟨S16384x1, .i32⟩) main_call5_v6) (TRef.of (T := ⟨S16384x1, .i1⟩) main_call5_v7) (cmpi .sge),
    TRef.unary (TRef.of (T := ⟨S1, .i32⟩) main_call5_c_1) (TRef.of (T := ⟨S1x1, .i32⟩) main_call5_v8) (broadcastInDim S1x1 ![1] bcast_S1_S1x1_1),
    TRef.unary (TRef.of (T := ⟨S1x1, .i32⟩) main_call5_v8) (TRef.of (T := ⟨S16384x1, .i32⟩) main_call5_v9) (broadcastInDim S16384x1 ![0, 1] bcast_S1x1_S16384x1_0_1),
    TRef.binary (TRef.of (T := ⟨S16384x1, .i32⟩) main_call5_v5) (TRef.of (T := ⟨S16384x1, .i32⟩) main_call5_v9) (TRef.of (T := ⟨S16384x1, .i1⟩) main_call5_v10) (cmpi .sle),
    TRef.binary (TRef.of (T := ⟨S16384x1, .i1⟩) main_call5_v7) (TRef.of (T := ⟨S16384x1, .i1⟩) main_call5_v10) (TRef.of (T := ⟨S16384x1, .i1⟩) main_call5_v11) andi,
    TRef.nullary (TRef.of (T := ⟨S_, .i1⟩) main_call5_c_3) (constantI S_ 1 1#1),
    TRef.binary (TRef.of (T := ⟨S16384x1, .i1⟩) main_call5_v11) (TRef.of (T := ⟨S_, .i1⟩) main_call5_c_3) (TRef.of (T := ⟨S16384, .i1⟩) main_call5_v12) (fun x v => Host.reduce IntOp.andi x v reducesTo_S16384x1_S16384_d1 h_S_),
    TRef.binary (TRef.of (T := ⟨S1024x64, .f32⟩) main_v36) (TRef.of (T := ⟨S16384x1, .i32⟩) main_call5_v5) (TRef.of (T := ⟨S16384x64, .f32⟩) main_call5_v13) (fun x i => Host.gather gather_S1024x64_S16384x1_S16384x64_1_0_n_n_0_1_164 x i),
    TRef.unary (TRef.of (T := ⟨S16384, .i1⟩) main_call5_v12) (TRef.of (T := ⟨S16384x64, .i1⟩) main_call5_v14) (broadcastInDim S16384x64 ![0] bcast_S16384_S16384x64_0),
    TRef.nullary (TRef.of (T := ⟨S_, .f32⟩) main_call5_cst) (constant S_ .f32 0x7FC00000#32),
    TRef.unary (TRef.of (T := ⟨S_, .f32⟩) main_call5_cst) (TRef.of (T := ⟨S16384x64, .f32⟩) main_call5_v15) (broadcastInDim S16384x64 ![] bcast_S_S16384x64),
    TRef.ternary (TRef.of (T := ⟨S16384x64, .i1⟩) main_call5_v14) (TRef.of (T := ⟨S16384x64, .f32⟩) main_call5_v13) (TRef.of (T := ⟨S16384x64, .f32⟩) main_call5_v15) (TRef.of (T := ⟨S16384x64, .f32⟩) main_v52) select ]

/-- What `opsB1` writes. -/
abbrev writtenB1 : List (Ref sig .tc) :=
  [main_call5_c, main_call5_v0, main_call5_v1, main_call5_c_0, main_call5_v2, main_call5_v3, main_call5_v4, main_call5_v5, main_call5_c_1, main_call5_c_2, main_call5_v6, main_call5_v7, main_call5_v8, main_call5_v9, main_call5_v10, main_call5_v11, main_call5_c_3, main_call5_v12, main_call5_v13, main_call5_v14, main_call5_cst, main_call5_v15, main_v52]

/-- Operations of level 1: sums. -/
abbrev opsC1 : List (HloOp τ sig (Elt F)) :=
  [ binary main_v33 main_v52 main_v53 (addf : (⟨S16384x64, .f32⟩ : BufTy).Contents (Elt F) → (⟨S16384x64, .f32⟩ : BufTy).Contents (Elt F) → (⟨S16384x64, .f32⟩ : BufTy).Contents (Elt F)),
    binary main_v34 main_v52 main_v54 (subf : (⟨S16384x64, .f32⟩ : BufTy).Contents (Elt F) → (⟨S16384x64, .f32⟩ : BufTy).Contents (Elt F) → (⟨S16384x64, .f32⟩ : BufTy).Contents (Elt F)) ]

/-- What `opsC1` writes. -/
abbrev writtenC1 : List (Ref sig .tc) :=
  [main_v53, main_v54]

/-- Operations of level 2: distances and numbers. -/
abbrev opsA2 : List (HloOp τ sig (Elt F)) :=
  [ unary main_arg7 main_v55 ((extractStridedSlice S1x1024x64 ![2, 0, 0] · slices_S3x1024x64_S1x1024x64_2_0_0) : (⟨S3x1024x64, .f32⟩ : BufTy).Contents (Elt F) → (⟨S1x1024x64, .f32⟩ : BufTy).Contents (Elt F)),
    reshape main_v55 main_v56 (rfl : (.f32 : EltTy) = .f32) shapeCasts_S1x1024x64_S1024x64,
    binary main_v54 main_v54 main_v57 (mulf : (⟨S16384x64, .f32⟩ : BufTy).Contents (Elt F) → (⟨S16384x64, .f32⟩ : BufTy).Contents (Elt F) → (⟨S16384x64, .f32⟩ : BufTy).Contents (Elt F)),
    nullary main_cst_6 (constant S_ .f32 0x00000000#32),
    binary main_v57 main_cst_6 main_v58 ((fun x v => Host.reduceAdd x v reducesTo_S16384x64_S16384_d1 h_S_) : (⟨S16384x64, .f32⟩ : BufTy).Contents (Elt F) → (⟨S_, .f32⟩ : BufTy).Contents (Elt F) → (⟨S16384, .f32⟩ : BufTy).Contents (Elt F)),
    unary main_v58 main_v59 (broadcastInDim S16384x1 ![0] bcast_S16384_S16384x1_0 : (⟨S16384, .f32⟩ : BufTy).Contents (Elt F) → (⟨S16384x1, .f32⟩ : BufTy).Contents (Elt F)),
    unary main_v56 main_v60 ((transpose S64x1024 [1, 0] · transposes_S1024x64_S64x1024_1_0) : (⟨S1024x64, .f32⟩ : BufTy).Contents (Elt F) → (⟨S64x1024, .f32⟩ : BufTy).Contents (Elt F)),
    binary main_v54 main_v60 main_v61 ((fun l r => Host.dotGeneral dot_S16384x64_S64x1024_S16384x1024_1_0_0_1_n_n none l r) : (⟨S16384x64, .f32⟩ : BufTy).Contents (Elt F) → (⟨S64x1024, .f32⟩ : BufTy).Contents (Elt F) → (⟨S16384x1024, .f32⟩ : BufTy).Contents (Elt F)),
    nullary main_cst_7 (constant S_ .f32 0x40000000#32),
    unary main_cst_7 main_v62 (broadcastInDim S16384x1024 ![] bcast_S_S16384x1024 : (⟨S_, .f32⟩ : BufTy).Contents (Elt F) → (⟨S16384x1024, .f32⟩ : BufTy).Contents (Elt F)),
    binary main_v62 main_v61 main_v63 (mulf : (⟨S16384x1024, .f32⟩ : BufTy).Contents (Elt F) → (⟨S16384x1024, .f32⟩ : BufTy).Contents (Elt F) → (⟨S16384x1024, .f32⟩ : BufTy).Contents (Elt F)),
    unary main_v59 main_v64 (broadcastInDim S16384x1024 ![0, 1] bcast_S16384x1_S16384x1024_0_1 : (⟨S16384x1, .f32⟩ : BufTy).Contents (Elt F) → (⟨S16384x1024, .f32⟩ : BufTy).Contents (Elt F)),
    binary main_v64 main_v63 main_v65 (subf : (⟨S16384x1024, .f32⟩ : BufTy).Contents (Elt F) → (⟨S16384x1024, .f32⟩ : BufTy).Contents (Elt F) → (⟨S16384x1024, .f32⟩ : BufTy).Contents (Elt F)),
    binary main_v56 main_v56 main_v66 (mulf : (⟨S1024x64, .f32⟩ : BufTy).Contents (Elt F) → (⟨S1024x64, .f32⟩ : BufTy).Contents (Elt F) → (⟨S1024x64, .f32⟩ : BufTy).Contents (Elt F)),
    nullary main_cst_8 (constant S_ .f32 0x00000000#32),
    binary main_v66 main_cst_8 main_v67 ((fun x v => Host.reduceAdd x v reducesTo_S1024x64_S1024_d1 h_S_) : (⟨S1024x64, .f32⟩ : BufTy).Contents (Elt F) → (⟨S_, .f32⟩ : BufTy).Contents (Elt F) → (⟨S1024, .f32⟩ : BufTy).Contents (Elt F)),
    unary main_v67 main_v68 (broadcastInDim S1x1024 ![1] bcast_S1024_S1x1024_1 : (⟨S1024, .f32⟩ : BufTy).Contents (Elt F) → (⟨S1x1024, .f32⟩ : BufTy).Contents (Elt F)),
    unary main_v68 main_v69 (broadcastInDim S16384x1024 ![0, 1] bcast_S1x1024_S16384x1024_0_1 : (⟨S1x1024, .f32⟩ : BufTy).Contents (Elt F) → (⟨S16384x1024, .f32⟩ : BufTy).Contents (Elt F)),
    binary main_v65 main_v69 main_v70 (addf : (⟨S16384x1024, .f32⟩ : BufTy).Contents (Elt F) → (⟨S16384x1024, .f32⟩ : BufTy).Contents (Elt F) → (⟨S16384x1024, .f32⟩ : BufTy).Contents (Elt F)),
    TRef.nullary (TRef.of (T := ⟨S16384x1024, .i32⟩) main_call6_v0) (iotaInDim S16384x1024 32 1),
    TRef.nullary (TRef.of (T := ⟨S_, .f32⟩) main_call6_cst) (constant S_ .f32 0x7F800000#32),
    TRef.nullary (TRef.of (T := ⟨S_, .i32⟩) main_call6_c) (constantI S_ 32 0#32),
    TRef.quaternary (TRef.of (T := ⟨S16384x1024, .f32⟩) main_v70) (TRef.of (T := ⟨S16384x1024, .i32⟩) main_call6_v0) (TRef.of (T := ⟨S_, .f32⟩) main_call6_cst) (TRef.of (T := ⟨S_, .i32⟩) main_call6_c) (TRef.of (T := ⟨S16384, .f32⟩) main_call6_v1_0) (fun x y u v j => (Host.argReduce reducer_argmin_f32_i32 x y u v reducesTo_S16384x1024_S16384_d1 h_S_ j).1),
    TRef.quaternary (TRef.of (T := ⟨S16384x1024, .f32⟩) main_v70) (TRef.of (T := ⟨S16384x1024, .i32⟩) main_call6_v0) (TRef.of (T := ⟨S_, .f32⟩) main_call6_cst) (TRef.of (T := ⟨S_, .i32⟩) main_call6_c) (TRef.of (T := ⟨S16384, .i32⟩) main_v71) (fun x y u v j => (Host.argReduce reducer_argmin_f32_i32 x y u v reducesTo_S16384x1024_S16384_d1 h_S_ j).2) ]

/-- What `opsA2` writes. -/
abbrev writtenA2 : List (Ref sig .tc) :=
  [main_v55, main_v56, main_v57, main_cst_6, main_v58, main_v59, main_v60, main_v61, main_cst_7, main_v62, main_v63, main_v64, main_v65, main_v66, main_cst_8, main_v67, main_v68, main_v69, main_v70, main_call6_v0, main_call6_cst, main_call6_c, main_call6_v1_0, main_v71]

/-- Operations of level 2: rows. -/
abbrev opsB2 : List (HloOp τ sig (Elt F)) :=
  [ TRef.nullary (TRef.of (T := ⟨S_, .i32⟩) main_call7_c) (constantI S_ 32 0#32),
    TRef.unary (TRef.of (T := ⟨S_, .i32⟩) main_call7_c) (TRef.of (T := ⟨S16384, .i32⟩) main_call7_v0) (broadcastInDim S16384 ![] bcast_S_S16384),
    TRef.binary (TRef.of (T := ⟨S16384, .i32⟩) main_v71) (TRef.of (T := ⟨S16384, .i32⟩) main_call7_v0) (TRef.of (T := ⟨S16384, .i1⟩) main_call7_v1) (cmpi .slt),
    TRef.nullary (TRef.of (T := ⟨S_, .i32⟩) main_call7_c_0) (constantI S_ 32 1024#32),
    TRef.unary (TRef.of (T := ⟨S_, .i32⟩) main_call7_c_0) (TRef.of (T := ⟨S16384, .i32⟩) main_call7_v2) (broadcastInDim S16384 ![] bcast_S_S16384),
    TRef.binary (TRef.of (T := ⟨S16384, .i32⟩) main_v71) (TRef.of (T := ⟨S16384, .i32⟩) main_call7_v2) (TRef.of (T := ⟨S16384, .i32⟩) main_call7_v3) addi,
    TRef.ternary (TRef.of (T := ⟨S16384, .i1⟩) main_call7_v1) (TRef.of (T := ⟨S16384, .i32⟩) main_call7_v3) (TRef.of (T := ⟨S16384, .i32⟩) main_v71) (TRef.of (T := ⟨S16384, .i32⟩) main_call7_v4) select,
    TRef.unary (TRef.of (T := ⟨S16384, .i32⟩) main_call7_v4) (TRef.of (T := ⟨S16384x1, .i32⟩) main_call7_v5) (broadcastInDim S16384x1 ![0] bcast_S16384_S16384x1_0),
    TRef.nullary (TRef.of (T := ⟨S1, .i32⟩) main_call7_c_1) (constantI S1 32 1023#32),
    TRef.nullary (TRef.of (T := ⟨S_, .i32⟩) main_call7_c_2) (constantI S_ 32 0#32),
    TRef.unary (TRef.of (T := ⟨S_, .i32⟩) main_call7_c_2) (TRef.of (T := ⟨S16384x1, .i32⟩) main_call7_v6) (broadcastInDim S16384x1 ![] bcast_S_S16384x1),
    TRef.binary (TRef.of (T := ⟨S16384x1, .i32⟩) main_call7_v5) (TRef.of (T := ⟨S16384x1, .i32⟩) main_call7_v6) (TRef.of (T := ⟨S16384x1, .i1⟩) main_call7_v7) (cmpi .sge),
    TRef.unary (TRef.of (T := ⟨S1, .i32⟩) main_call7_c_1) (TRef.of (T := ⟨S1x1, .i32⟩) main_call7_v8) (broadcastInDim S1x1 ![1] bcast_S1_S1x1_1),
    TRef.unary (TRef.of (T := ⟨S1x1, .i32⟩) main_call7_v8) (TRef.of (T := ⟨S16384x1, .i32⟩) main_call7_v9) (broadcastInDim S16384x1 ![0, 1] bcast_S1x1_S16384x1_0_1),
    TRef.binary (TRef.of (T := ⟨S16384x1, .i32⟩) main_call7_v5) (TRef.of (T := ⟨S16384x1, .i32⟩) main_call7_v9) (TRef.of (T := ⟨S16384x1, .i1⟩) main_call7_v10) (cmpi .sle),
    TRef.binary (TRef.of (T := ⟨S16384x1, .i1⟩) main_call7_v7) (TRef.of (T := ⟨S16384x1, .i1⟩) main_call7_v10) (TRef.of (T := ⟨S16384x1, .i1⟩) main_call7_v11) andi,
    TRef.nullary (TRef.of (T := ⟨S_, .i1⟩) main_call7_c_3) (constantI S_ 1 1#1),
    TRef.binary (TRef.of (T := ⟨S16384x1, .i1⟩) main_call7_v11) (TRef.of (T := ⟨S_, .i1⟩) main_call7_c_3) (TRef.of (T := ⟨S16384, .i1⟩) main_call7_v12) (fun x v => Host.reduce IntOp.andi x v reducesTo_S16384x1_S16384_d1 h_S_),
    TRef.binary (TRef.of (T := ⟨S1024x64, .f32⟩) main_v56) (TRef.of (T := ⟨S16384x1, .i32⟩) main_call7_v5) (TRef.of (T := ⟨S16384x64, .f32⟩) main_call7_v13) (fun x i => Host.gather gather_S1024x64_S16384x1_S16384x64_1_0_n_n_0_1_164 x i),
    TRef.unary (TRef.of (T := ⟨S16384, .i1⟩) main_call7_v12) (TRef.of (T := ⟨S16384x64, .i1⟩) main_call7_v14) (broadcastInDim S16384x64 ![0] bcast_S16384_S16384x64_0),
    TRef.nullary (TRef.of (T := ⟨S_, .f32⟩) main_call7_cst) (constant S_ .f32 0x7FC00000#32),
    TRef.unary (TRef.of (T := ⟨S_, .f32⟩) main_call7_cst) (TRef.of (T := ⟨S16384x64, .f32⟩) main_call7_v15) (broadcastInDim S16384x64 ![] bcast_S_S16384x64),
    TRef.ternary (TRef.of (T := ⟨S16384x64, .i1⟩) main_call7_v14) (TRef.of (T := ⟨S16384x64, .f32⟩) main_call7_v13) (TRef.of (T := ⟨S16384x64, .f32⟩) main_call7_v15) (TRef.of (T := ⟨S16384x64, .f32⟩) main_v72) select ]

/-- What `opsB2` writes. -/
abbrev writtenB2 : List (Ref sig .tc) :=
  [main_call7_c, main_call7_v0, main_call7_v1, main_call7_c_0, main_call7_v2, main_call7_v3, main_call7_v4, main_call7_v5, main_call7_c_1, main_call7_c_2, main_call7_v6, main_call7_v7, main_call7_v8, main_call7_v9, main_call7_v10, main_call7_v11, main_call7_c_3, main_call7_v12, main_call7_v13, main_call7_v14, main_call7_cst, main_call7_v15, main_v72]

/-- Operations of level 2: sums. -/
abbrev opsC2 : List (HloOp τ sig (Elt F)) :=
  [ binary main_v53 main_v72 main_v73 (addf : (⟨S16384x64, .f32⟩ : BufTy).Contents (Elt F) → (⟨S16384x64, .f32⟩ : BufTy).Contents (Elt F) → (⟨S16384x64, .f32⟩ : BufTy).Contents (Elt F)),
    binary main_v54 main_v72 main_v74 (subf : (⟨S16384x64, .f32⟩ : BufTy).Contents (Elt F) → (⟨S16384x64, .f32⟩ : BufTy).Contents (Elt F) → (⟨S16384x64, .f32⟩ : BufTy).Contents (Elt F)) ]

/-- What `opsC2` writes. -/
abbrev writtenC2 : List (Ref sig .tc) :=
  [main_v73, main_v74]

/-- Operations of the three columns of numbers, side by side. -/
abbrev opsTail : List (HloOp τ sig (Elt F)) :=
  [ unary main_v31 main_v75 (broadcastInDim S16384x1 ![0] bcast_S16384_S16384x1_0 : (⟨S16384, .i32⟩ : BufTy).Contents (Elt F) → (⟨S16384x1, .i32⟩ : BufTy).Contents (Elt F)),
    unary main_v51 main_v76 (broadcastInDim S16384x1 ![0] bcast_S16384_S16384x1_0 : (⟨S16384, .i32⟩ : BufTy).Contents (Elt F) → (⟨S16384x1, .i32⟩ : BufTy).Contents (Elt F)),
    unary main_v71 main_v77 (broadcastInDim S16384x1 ![0] bcast_S16384_S16384x1_0 : (⟨S16384, .i32⟩ : BufTy).Contents (Elt F) → (⟨S16384x1, .i32⟩ : BufTy).Contents (Elt F)),
    nary ![main_v75, main_v76, main_v77] main_v78 (fun u => threeColumns (u 0) (u 1) (u 2)) ]

/-- What `opsTail` writes. -/
abbrev writtenTail : List (Ref sig .tc) :=
  [main_v75, main_v76, main_v77, main_v78]

end Cert.Proof.Ref

end
-- ==== Proof.RefRun.lean ====
/-
  The reference's run: its host program ends with its two results equal to `refIds` and `refQuant` of the arguments, and leaves
  the arguments as they were. The functions below are the program's arithmetic written out: the encoder, and for a codebook
  the distances, the number of the nearest row, and that row.
-/
module

public import proofs.«01_k».proof.Proof.RefOps

@[expose] public section

set_option maxRecDepth 16384
set_option Elab.async false

noncomputable section

namespace Cert.Proof.Ref

open Cert.ReferenceIdeal Cert.ReferenceIdeal.Gen
open Idealize.ShloMosaic Idealize.ShloMosaic.TcCoe Idealize.SL.Sem Idealize.ShloMosaic.StableHlo

variable {F : FTy → Type} [FloatOps F]

/-! ## What the program computes -/

/-- One dense layer of the encoder with 512 outputs, clipped below at zero. -/
def refLayer1 (x : FVec F S16384x768 .f32) (w : FVec F S768x512 .f32) (b : FVec F S512 .f32) : FVec F S16384x512 .f32 :=
  maximumf (addf (Host.dotGeneral dot_S16384x768_S768x512_S16384x512_1_0_0_1_n_n none x w)
    (broadcastInDim S16384x512 ![0, 1] bcast_S1x512_S16384x512_0_1 (broadcastInDim S1x512 ![1] bcast_S512_S1x512_1 b)))
    (broadcastInDim S16384x512 ![] bcast_S_S16384x512 (constant S_ .f32 0x00000000#32))

/-- The second layer. -/
def refLayer2 (h : FVec F S16384x512 .f32) (w : FVec F S512x256 .f32) (b : FVec F S256 .f32) : FVec F S16384x256 .f32 :=
  maximumf (addf (Host.dotGeneral dot_S16384x512_S512x256_S16384x256_1_0_0_1_n_n none h w)
    (broadcastInDim S16384x256 ![0, 1] bcast_S1x256_S16384x256_0_1 (broadcastInDim S1x256 ![1] bcast_S256_S1x256_1 b)))
    (broadcastInDim S16384x256 ![] bcast_S_S16384x256 (constant S_ .f32 0x00000000#32))

/-- The third layer, not clipped. -/
def refLayer3 (h : FVec F S16384x256 .f32) (w : FVec F S256x64 .f32) (b : FVec F S64 .f32) : FVec F S16384x64 .f32 :=
  addf (Host.dotGeneral dot_S16384x256_S256x64_S16384x64_1_0_0_1_n_n none h w)
    (broadcastInDim S16384x64 ![0, 1] bcast_S1x64_S16384x64_0_1 (broadcastInDim S1x64 ![1] bcast_S64_S1x64_1 b))

/-- The distances of the rows `r` from the rows of the codebook `cb`. -/
def refDist (r : FVec F S16384x64 .f32) (cb : FVec F S1024x64 .f32) : FVec F S16384x1024 .f32 :=
  addf (subf (broadcastInDim S16384x1024 ![0, 1] bcast_S16384x1_S16384x1024_0_1
      (broadcastInDim S16384x1 ![0] bcast_S16384_S16384x1_0
        (Host.reduceAdd (mulf r r) (constant S_ .f32 0x00000000#32) reducesTo_S16384x64_S16384_d1 h_S_)))
    (mulf (broadcastInDim S16384x1024 ![] bcast_S_S16384x1024 (constant S_ .f32 0x40000000#32))
      (Host.dotGeneral dot_S16384x64_S64x1024_S16384x1024_1_0_0_1_n_n none r
        (transpose S64x1024 [1, 0] cb transposes_S1024x64_S64x1024_1_0))))
    (broadcastInDim S16384x1024 ![0, 1] bcast_S1x1024_S16384x1024_0_1
      (broadcastInDim S1x1024 ![1] bcast_S1024_S1x1024_1
        (Host.reduceAdd (mulf cb cb) (constant S_ .f32 0x00000000#32) reducesTo_S1024x64_S1024_d1 h_S_)))

/-- Each row's number of the least distance. -/
def refArgmin (d : FVec F S16384x1024 .f32) : IVec S16384 32 := fun j =>
  (Host.argReduce reducer_argmin_f32_i32 d (iotaInDim S16384x1024 32 1) (constant S_ .f32 0x7F800000#32) (constantI S_ 32 0#32)
    reducesTo_S16384x1024_S16384_d1 h_S_ j).2

/-- Row numbers as a column, a negative number counted from the end. -/
def refWrap (i : IVec S16384 32) : IVec S16384x1 32 :=
  broadcastInDim S16384x1 ![0] bcast_S16384_S16384x1_0
    (select (cmpi .slt i (broadcastInDim S16384 ![] bcast_S_S16384 (constantI S_ 32 0#32)))
      (addi i (broadcastInDim S16384 ![] bcast_S_S16384 (constantI S_ 32 1024#32))) i)

/-- The codebook's rows at the row numbers `i`, a quiet NaN where a number is out of range. -/
def refTake (cb : FVec F S1024x64 .f32) (i : IVec S16384 32) : FVec F S16384x64 .f32 :=
  select (broadcastInDim S16384x64 ![0] bcast_S16384_S16384x64_0
      (Host.reduce IntOp.andi
        (andi (cmpi .sge (refWrap i) (broadcastInDim S16384x1 ![] bcast_S_S16384x1 (constantI S_ 32 0#32)))
          (cmpi .sle (refWrap i) (broadcastInDim S16384x1 ![0, 1] bcast_S1x1_S16384x1_0_1
            (broadcastInDim S1x1 ![1] bcast_S1_S1x1_1 (constantI S1 32 1023#32)))))
        (constantI S_ 1 1#1) reducesTo_S16384x1_S16384_d1 h_S_))
    (Host.gather gather_S1024x64_S16384x1_S16384x64_1_0_n_n_0_1_164 cb (refWrap i))
    (broadcastInDim S16384x64 ![] bcast_S_S16384x64 (constant S_ .f32 0x7FC00000#32))

/-- The three codebooks of the array. -/
def refBook0 (c : FVec F S3x1024x64 .f32) : FVec F S1024x64 .f32 :=
  shapeCast S1024x64 (extractStridedSlice S1x1024x64 ![0, 0, 0] c slices_S3x1024x64_S1x1024x64_0_0_0) shapeCasts_S1x1024x64_S1024x64
@[inherit_doc refBook0] def refBook1 (c : FVec F S3x1024x64 .f32) : FVec F S1024x64 .f32 :=
  shapeCast S1024x64 (extractStridedSlice S1x1024x64 ![1, 0, 0] c slices_S3x1024x64_S1x1024x64_1_0_0) shapeCasts_S1x1024x64_S1024x64
@[inherit_doc refBook0] def refBook2 (c : FVec F S3x1024x64 .f32) : FVec F S1024x64 .f32 :=
  shapeCast S1024x64 (extractStridedSlice S1x1024x64 ![2, 0, 0] c slices_S3x1024x64_S1x1024x64_2_0_0) shapeCasts_S1x1024x64_S1024x64

/-- The array of zeros that `quant` starts from. -/
def refZero : FVec F S16384x64 .f32 := broadcastInDim S16384x64 ![] bcast_S_S16384x64 (constant S_ .f32 0x00000000#32)

/-- The numbers as a column of the first result. -/
def refColumn (i : IVec S16384 32) : IVec S16384x1 32 := broadcastInDim S16384x1 ![0] bcast_S16384_S16384x1_0 i

/-! ## The windows, one after the other -/

variable (V : Valuation τ sig (Elt F))

theorem keepMlp (r : Ref sig .tc) (h : r ∉ writtenMlp) : after opsMlp V (Proc.devRef .tc r) = V (Proc.devRef .tc r) :=
  after_of_writes_sub opsMlp V (forall_writes_sub_of_map rfl) h
theorem keepA0 (r : Ref sig .tc) (h : r ∉ writtenA0) : after opsA0 V (Proc.devRef .tc r) = V (Proc.devRef .tc r) :=
  after_of_writes_sub opsA0 V (forall_writes_sub_of_map rfl) h
theorem keepB0 (r : Ref sig .tc) (h : r ∉ writtenB0) : after opsB0 V (Proc.devRef .tc r) = V (Proc.devRef .tc r) :=
  after_of_writes_sub opsB0 V (forall_writes_sub_of_map rfl) h
theorem keepC0 (r : Ref sig .tc) (h : r ∉ writtenC0) : after opsC0 V (Proc.devRef .tc r) = V (Proc.devRef .tc r) :=
  after_of_writes_sub opsC0 V (forall_writes_sub_of_map rfl) h
theorem keepA1 (r : Ref sig .tc) (h : r ∉ writtenA1) : after opsA1 V (Proc.devRef .tc r) = V (Proc.devRef .tc r) :=
  after_of_writes_sub opsA1 V (forall_writes_sub_of_map rfl) h
theorem keepB1 (r : Ref sig .tc) (h : r ∉ writtenB1) : after opsB1 V (Proc.devRef .tc r) = V (Proc.devRef .tc r) :=
  after_of_writes_sub opsB1 V (forall_writes_sub_of_map rfl) h
theorem keepC1 (r : Ref sig .tc) (h : r ∉ writtenC1) : after opsC1 V (Proc.devRef .tc r) = V (Proc.devRef .tc r) :=
  after_of_writes_sub opsC1 V (forall_writes_sub_of_map rfl) h
theorem keepA2 (r : Ref sig .tc) (h : r ∉ writtenA2) : after opsA2 V (Proc.devRef .tc r) = V (Proc.devRef .tc r) :=
  after_of_writes_sub opsA2 V (forall_writes_sub_of_map rfl) h
theorem keepB2 (r : Ref sig .tc) (h : r ∉ writtenB2) : after opsB2 V (Proc.devRef .tc r) = V (Proc.devRef .tc r) :=
  after_of_writes_sub opsB2 V (forall_writes_sub_of_map rfl) h
theorem keepC2 (r : Ref sig .tc) (h : r ∉ writtenC2) : after opsC2 V (Proc.devRef .tc r) = V (Proc.devRef .tc r) :=
  after_of_writes_sub opsC2 V (forall_writes_sub_of_map rfl) h
theorem keepTail (r : Ref sig .tc) (h : r ∉ writtenTail) : after opsTail V (Proc.devRef .tc r) = V (Proc.devRef .tc r) :=
  after_of_writes_sub opsTail V (forall_writes_sub_of_map rfl) h

/-- The encoder's output. -/
theorem z_eq : after opsMlp V (Proc.devRef .tc main_v13)
    = refLayer3 (refLayer2 (refLayer1 (V (Proc.devRef .tc main_arg0)) (V (Proc.devRef .tc main_arg1)) (V (Proc.devRef .tc main_arg2)))
        (V (Proc.devRef .tc main_arg3)) (V (Proc.devRef .tc main_arg4))) (V (Proc.devRef .tc main_arg5)) (V (Proc.devRef .tc main_arg6)) := by
  simp only [opsMlp, TRef.binary, TRef.nullary, TRef.unary, TRef.toBuf, TRef.ofBuf, cast_eq]
  after_results_simp
  rfl
theorem zero_eq : after opsMlp V (Proc.devRef .tc main_v14) = refZero (F := F) := by
  simp only [opsMlp, TRef.binary, TRef.nullary, TRef.unary, TRef.toBuf, TRef.ofBuf, cast_eq]
  after_results_simp
  rfl

/-- Level 0: its codebook, and its numbers, from the residual. -/
theorem book0_eq : after opsA0 V (Proc.devRef .tc main_v16) = refBook0 (V (Proc.devRef .tc main_arg7)) := by
  simp only [opsA0, TRef.binary, TRef.nullary, TRef.unary, TRef.quaternary, TRef.toBuf, TRef.ofBuf, cast_eq]
  after_results_simp
  rfl
theorem ids0_eq : after opsA0 V (Proc.devRef .tc main_v31)
    = refArgmin (refDist (V (Proc.devRef .tc main_v13)) (refBook0 (V (Proc.devRef .tc main_arg7)))) := by
  simp only [opsA0, TRef.binary, TRef.nullary, TRef.unary, TRef.quaternary, TRef.toBuf, TRef.ofBuf, cast_eq]
  after_results_simp
  rfl
theorem rows0_eq : after opsB0 V (Proc.devRef .tc main_v32)
    = refTake (V (Proc.devRef .tc main_v16)) (V (Proc.devRef .tc main_v31)) := by
  simp only [opsB0, TRef.binary, TRef.nullary, TRef.unary, TRef.ternary, TRef.toBuf, TRef.ofBuf, cast_eq]
  after_results_simp
  rfl
theorem quant0_eq : after opsC0 V (Proc.devRef .tc main_v33)
    = addf (V (Proc.devRef .tc main_v14)) (V (Proc.devRef .tc main_v32)) := by
  after_results_simp
theorem res0_eq : after opsC0 V (Proc.devRef .tc main_v34)
    = subf (V (Proc.devRef .tc main_v13)) (V (Proc.devRef .tc main_v32)) := by
  after_results_simp

/-- Level 1, the same of its own references. -/
theorem book1_eq : after opsA1 V (Proc.devRef .tc main_v36) = refBook1 (V (Proc.devRef .tc main_arg7)) := by
  simp only [opsA1, TRef.binary, TRef.nullary, TRef.unary, TRef.quaternary, TRef.toBuf, TRef.ofBuf, cast_eq]
  after_results_simp
  rfl
theorem ids1_eq : after opsA1 V (Proc.devRef .tc main_v51)
    = refArgmin (refDist (V (Proc.devRef .tc main_v34)) (refBook1 (V (Proc.devRef .tc main_arg7)))) := by
  simp only [opsA1, TRef.binary, TRef.nullary, TRef.unary, TRef.quaternary, TRef.toBuf, TRef.ofBuf, cast_eq]
  after_results_simp
  rfl
theorem rows1_eq : after opsB1 V (Proc.devRef .tc main_v52)
    = refTake (V (Proc.devRef .tc main_v36)) (V (Proc.devRef .tc main_v51)) := by
  simp only [opsB1, TRef.binary, TRef.nullary, TRef.unary, TRef.ternary, TRef.toBuf, TRef.ofBuf, cast_eq]
  after_results_simp
  rfl
theorem quant1_eq : after opsC1 V (Proc.devRef .tc main_v53)
    = addf (V (Proc.devRef .tc main_v33)) (V (Proc.devRef .tc main_v52)) := by
  after_results_simp
theorem res1_eq : after opsC1 V (Proc.devRef .tc main_v54)
    = subf (V (Proc.devRef .tc main_v34)) (V (Proc.devRef .tc main_v52)) := by
  after_results_simp

/-- Level 2. -/
theorem book2_eq : after opsA2 V (Proc.devRef .tc main_v56) = refBook2 (V (Proc.devRef .tc main_arg7)) := by
  simp only [opsA2, TRef.binary, TRef.nullary, TRef.unary, TRef.quaternary, TRef.toBuf, TRef.ofBuf, cast_eq]
  after_results_simp
  rfl
theorem ids2_eq : after opsA2 V (Proc.devRef .tc main_v71)
    = refArgmin (refDist (V (Proc.devRef .tc main_v54)) (refBook2 (V (Proc.devRef .tc main_arg7)))) := by
  simp only [opsA2, TRef.binary, TRef.nullary, TRef.unary, TRef.quaternary, TRef.toBuf, TRef.ofBuf, cast_eq]
  after_results_simp
  rfl
theorem rows2_eq : after opsB2 V (Proc.devRef .tc main_v72)
    = refTake (V (Proc.devRef .tc main_v56)) (V (Proc.devRef .tc main_v71)) := by
  simp only [opsB2, TRef.binary, TRef.nullary, TRef.unary, TRef.ternary, TRef.toBuf, TRef.ofBuf, cast_eq]
  after_results_simp
  rfl
theorem quant2_eq : after opsC2 V (Proc.devRef .tc main_v73)
    = addf (V (Proc.devRef .tc main_v53)) (V (Proc.devRef .tc main_v72)) := by
  after_results_simp

theorem columns_eq : after opsTail V (Proc.devRef .tc main_v78)
    = threeColumns (refColumn (V (Proc.devRef .tc main_v31))) (refColumn (V (Proc.devRef .tc main_v51))) (refColumn (V (Proc.devRef .tc main_v71))) := by
  after_results_simp
  rfl

/-! ## The whole program -/

/-- The operations before the program's second half, and those of it. -/
abbrev opsFront : List (HloOp τ sig (Elt F)) := opsMlp ++ (opsA0 ++ (opsB0 ++ (opsC0 ++ (opsA1 ++ opsB1))))
@[inherit_doc opsFront] abbrev opsBack : List (HloOp τ sig (Elt F)) := opsC1 ++ (opsA2 ++ (opsB2 ++ (opsC2 ++ opsTail)))

/-- All of its operations. -/
abbrev ops : List (HloOp τ sig (Elt F)) := opsFront ++ opsBack

theorem front_eq (c : Dev nD) : main_part0 (F := F) c = seq opsFront := rfl
theorem back_eq (c : Dev nD) : main_part1 (F := F) c = seq opsBack := rfl
theorem main_eq (c : Dev nD) : main (F := F) c = seq ops := by
  rw [ops, seq_append, ← front_eq c, ← back_eq c]
  rfl

theorem scopedRefs_eq : (Finset.univ.filter fun b : Ref sig .tc => b.isScoped) = ∅ := by decide
theorem scopedSems_eq : (Finset.univ.filter fun s : SemLoc sig => s.isScoped .tc) = ∅ := by decide

/-- A list's operations touch only references of the core, and none is written fresh. -/
theorem forall_append {p : HloOp τ sig (Elt F) → Prop} {l l' : List (HloOp τ sig (Elt F))}
    (h : l.Forall p) (h' : l'.Forall p) : (l ++ l').Forall p :=
  List.forall_iff_forall_mem.mpr fun o ho => (List.mem_append.mp ho).elim
    (List.forall_iff_forall_mem.mp h o) (List.forall_iff_forall_mem.mp h' o)

theorem opsFront_fresh : (opsFront : List (HloOp τ sig (Elt F))).Forall fun o => o.fresh = ∅ :=
  forall_append (forall_fresh_of_map rfl) (forall_append (forall_fresh_of_map rfl) (forall_append (forall_fresh_of_map rfl)
    (forall_append (forall_fresh_of_map rfl) (forall_append (forall_fresh_of_map rfl) (forall_fresh_of_map rfl)))))
theorem opsBack_fresh : (opsBack : List (HloOp τ sig (Elt F))).Forall fun o => o.fresh = ∅ :=
  forall_append (forall_fresh_of_map rfl) (forall_append (forall_fresh_of_map rfl) (forall_append (forall_fresh_of_map rfl)
    (forall_append (forall_fresh_of_map rfl) (forall_fresh_of_map rfl))))
theorem ops_fresh : ∀ o ∈ (ops : List (HloOp τ sig (Elt F))), o.fresh = ∅ :=
  List.forall_iff_forall_mem.mp (forall_append opsFront_fresh opsBack_fresh)

/-- Every operation of the program touches only references of the core. -/
theorem subMlp : (opsMlp : List (HloOp τ sig (Elt F))).Forall fun o => o.bufs ⊆ tcRefs τ sig :=
  ⟨binary_bufs_sub .., unary_bufs_sub .., unary_bufs_sub .., binary_bufs_sub .., nullary_bufs_sub .., unary_bufs_sub ..,
   binary_bufs_sub .., binary_bufs_sub .., unary_bufs_sub .., unary_bufs_sub .., binary_bufs_sub .., nullary_bufs_sub ..,
   unary_bufs_sub .., binary_bufs_sub .., binary_bufs_sub .., unary_bufs_sub .., unary_bufs_sub .., binary_bufs_sub ..,
   nullary_bufs_sub .., unary_bufs_sub ..⟩
theorem subA0 : (opsA0 : List (HloOp τ sig (Elt F))).Forall fun o => o.bufs ⊆ tcRefs τ sig :=
  ⟨unary_bufs_sub .., reshape_bufs_sub .., binary_bufs_sub .., nullary_bufs_sub .., binary_bufs_sub .., unary_bufs_sub ..,
   unary_bufs_sub .., binary_bufs_sub .., nullary_bufs_sub .., unary_bufs_sub .., binary_bufs_sub .., unary_bufs_sub ..,
   binary_bufs_sub .., binary_bufs_sub .., nullary_bufs_sub .., binary_bufs_sub .., unary_bufs_sub .., unary_bufs_sub ..,
   binary_bufs_sub .., nullary_bufs_sub .., nullary_bufs_sub .., nullary_bufs_sub .., quaternary_bufs_sub .., quaternary_bufs_sub
   ..⟩
theorem subB0 : (opsB0 : List (HloOp τ sig (Elt F))).Forall fun o => o.bufs ⊆ tcRefs τ sig :=
  ⟨nullary_bufs_sub .., unary_bufs_sub .., binary_bufs_sub .., nullary_bufs_sub .., unary_bufs_sub .., binary_bufs_sub ..,
   ternary_bufs_sub .., unary_bufs_sub .., nullary_bufs_sub .., nullary_bufs_sub .., unary_bufs_sub .., binary_bufs_sub ..,
   unary_bufs_sub .., unary_bufs_sub .., binary_bufs_sub .., binary_bufs_sub .., nullary_bufs_sub .., binary_bufs_sub ..,
   binary_bufs_sub .., unary_bufs_sub .., nullary_bufs_sub .., unary_bufs_sub .., ternary_bufs_sub ..⟩
theorem subC0 : (opsC0 : List (HloOp τ sig (Elt F))).Forall fun o => o.bufs ⊆ tcRefs τ sig :=
  ⟨binary_bufs_sub .., binary_bufs_sub ..⟩
theorem subA1 : (opsA1 : List (HloOp τ sig (Elt F))).Forall fun o => o.bufs ⊆ tcRefs τ sig :=
  ⟨unary_bufs_sub .., reshape_bufs_sub .., binary_bufs_sub .., nullary_bufs_sub .., binary_bufs_sub .., unary_bufs_sub ..,
   unary_bufs_sub .., binary_bufs_sub .., nullary_bufs_sub .., unary_bufs_sub .., binary_bufs_sub .., unary_bufs_sub ..,
   binary_bufs_sub .., binary_bufs_sub .., nullary_bufs_sub .., binary_bufs_sub .., unary_bufs_sub .., unary_bufs_sub ..,
   binary_bufs_sub .., nullary_bufs_sub .., nullary_bufs_sub .., nullary_bufs_sub .., quaternary_bufs_sub .., quaternary_bufs_sub
   ..⟩
theorem subB1 : (opsB1 : List (HloOp τ sig (Elt F))).Forall fun o => o.bufs ⊆ tcRefs τ sig :=
  ⟨nullary_bufs_sub .., unary_bufs_sub .., binary_bufs_sub .., nullary_bufs_sub .., unary_bufs_sub .., binary_bufs_sub ..,
   ternary_bufs_sub .., unary_bufs_sub .., nullary_bufs_sub .., nullary_bufs_sub .., unary_bufs_sub .., binary_bufs_sub ..,
   unary_bufs_sub .., unary_bufs_sub .., binary_bufs_sub .., binary_bufs_sub .., nullary_bufs_sub .., binary_bufs_sub ..,
   binary_bufs_sub .., unary_bufs_sub .., nullary_bufs_sub .., unary_bufs_sub .., ternary_bufs_sub ..⟩
theorem subC1 : (opsC1 : List (HloOp τ sig (Elt F))).Forall fun o => o.bufs ⊆ tcRefs τ sig :=
  ⟨binary_bufs_sub .., binary_bufs_sub ..⟩
theorem subA2 : (opsA2 : List (HloOp τ sig (Elt F))).Forall fun o => o.bufs ⊆ tcRefs τ sig :=
  ⟨unary_bufs_sub .., reshape_bufs_sub .., binary_bufs_sub .., nullary_bufs_sub .., binary_bufs_sub .., unary_bufs_sub ..,
   unary_bufs_sub .., binary_bufs_sub .., nullary_bufs_sub .., unary_bufs_sub .., binary_bufs_sub .., unary_bufs_sub ..,
   binary_bufs_sub .., binary_bufs_sub .., nullary_bufs_sub .., binary_bufs_sub .., unary_bufs_sub .., unary_bufs_sub ..,
   binary_bufs_sub .., nullary_bufs_sub .., nullary_bufs_sub .., nullary_bufs_sub .., quaternary_bufs_sub .., quaternary_bufs_sub
   ..⟩
theorem subB2 : (opsB2 : List (HloOp τ sig (Elt F))).Forall fun o => o.bufs ⊆ tcRefs τ sig :=
  ⟨nullary_bufs_sub .., unary_bufs_sub .., binary_bufs_sub .., nullary_bufs_sub .., unary_bufs_sub .., binary_bufs_sub ..,
   ternary_bufs_sub .., unary_bufs_sub .., nullary_bufs_sub .., nullary_bufs_sub .., unary_bufs_sub .., binary_bufs_sub ..,
   unary_bufs_sub .., unary_bufs_sub .., binary_bufs_sub .., binary_bufs_sub .., nullary_bufs_sub .., binary_bufs_sub ..,
   binary_bufs_sub .., unary_bufs_sub .., nullary_bufs_sub .., unary_bufs_sub .., ternary_bufs_sub ..⟩
theorem subC2 : (opsC2 : List (HloOp τ sig (Elt F))).Forall fun o => o.bufs ⊆ tcRefs τ sig :=
  ⟨binary_bufs_sub .., binary_bufs_sub ..⟩
theorem subTail : (opsTail : List (HloOp τ sig (Elt F))).Forall fun o => o.bufs ⊆ tcRefs τ sig :=
  ⟨unary_bufs_sub .., unary_bufs_sub .., unary_bufs_sub .., nary_bufs_sub ..⟩
theorem opsFront_sub : (opsFront : List (HloOp τ sig (Elt F))).Forall fun o => o.bufs ⊆ tcRefs τ sig :=
  forall_append subMlp (forall_append subA0 (forall_append subB0 (forall_append subC0 (forall_append subA1 subB1))))
theorem opsBack_sub : (opsBack : List (HloOp τ sig (Elt F))).Forall fun o => o.bufs ⊆ tcRefs τ sig :=
  forall_append subC1 (forall_append subA2 (forall_append subB2 (forall_append subC2 subTail)))

/-! ## The results -/

/-- The number of the codebook row nearest to each row of `r`. -/
def refNearest (r : FVec F S16384x64 .f32) (cb : FVec F S1024x64 .f32) : IVec S16384 32 := refArgmin (refDist r cb)

/-- Those rows. -/
def refRows (r : FVec F S16384x64 .f32) (cb : FVec F S1024x64 .f32) : FVec F S16384x64 .f32 := refTake cb (refNearest r cb)

/-- What is left of `r` without them. -/
def refLeft (r : FVec F S16384x64 .f32) (cb : FVec F S1024x64 .f32) : FVec F S16384x64 .f32 := subf r (refRows r cb)

/-- The first result, from the encoder's output and the codebooks. -/
def refIds (z : FVec F S16384x64 .f32) (c : FVec F S3x1024x64 .f32) : IVec S16384x3 32 :=
  threeColumns (refColumn (refNearest z (refBook0 c))) (refColumn (refNearest (refLeft z (refBook0 c)) (refBook1 c)))
    (refColumn (refNearest (refLeft (refLeft z (refBook0 c)) (refBook1 c)) (refBook2 c)))

/-- The second result. -/
def refQuant (z : FVec F S16384x64 .f32) (c : FVec F S3x1024x64 .f32) : FVec F S16384x64 .f32 :=
  addf (addf (addf refZero (refRows z (refBook0 c))) (refRows (refLeft z (refBook0 c)) (refBook1 c)))
    (refRows (refLeft (refLeft z (refBook0 c)) (refBook1 c)) (refBook2 c))

/-- The encoder's output, from the arguments. -/
def refZ (V : Valuation τ sig (Elt F)) : FVec F S16384x64 .f32 :=
  refLayer3 (refLayer2 (refLayer1 (V (Proc.devRef .tc main_arg0)) (V (Proc.devRef .tc main_arg1)) (V (Proc.devRef .tc main_arg2)))
    (V (Proc.devRef .tc main_arg3)) (V (Proc.devRef .tc main_arg4))) (V (Proc.devRef .tc main_arg5)) (V (Proc.devRef .tc main_arg6))

theorem after_append (l l' : List (HloOp τ sig (Elt F))) (V : Valuation τ sig (Elt F)) : after (l ++ l') V = after l' (after l V) := by
  induction l generalizing V with
  | nil => rfl
  | cons o l ih => exact ih _

/-- An argument is never written. -/
theorem keep_all (r : Ref sig .tc) (h : r ∉ writtenMlp ++ (writtenA0 ++ (writtenB0 ++ (writtenC0 ++ (writtenA1 ++ (writtenB1
    ++ (writtenC1 ++ (writtenA2 ++ (writtenB2 ++ (writtenC2 ++ writtenTail)))))))))) :
    after ops V (Proc.devRef .tc r) = V (Proc.devRef .tc r) := by
  simp only [List.mem_append, not_or] at h
  obtain ⟨h0, h1, h2, h3, h4, h5, h6, h7, h8, h9, h10⟩ := h
  simp only [ops, opsFront, opsBack, after_append]
  rw [keepTail _ r h10, keepC2 _ r h9, keepB2 _ r h8, keepA2 _ r h7, keepC1 _ r h6, keepB1 _ r h5, keepA1 _ r h4, keepC0 _ r h3,
    keepB0 _ r h2, keepA0 _ r h1, keepMlp _ r h0]

theorem after_ids : after ops V (Proc.devRef .tc main_v78) = refIds (refZ V) (V (Proc.devRef .tc main_arg7)) := by
  simp only [ops, opsFront, opsBack, after_append]
  rw [columns_eq,
    keepC2 _ main_v31 (by decide), keepB2 _ main_v31 (by decide), keepA2 _ main_v31 (by decide), keepC1 _ main_v31 (by decide),
    keepB1 _ main_v31 (by decide), keepA1 _ main_v31 (by decide), keepC0 _ main_v31 (by decide), keepB0 _ main_v31 (by decide), ids0_eq,
    keepC2 _ main_v51 (by decide), keepB2 _ main_v51 (by decide), keepA2 _ main_v51 (by decide), keepC1 _ main_v51 (by decide),
    keepB1 _ main_v51 (by decide), ids1_eq,
    keepC2 _ main_v71 (by decide), keepB2 _ main_v71 (by decide), ids2_eq,
    res1_eq, keepB1 _ main_v34 (by decide), keepA1 _ main_v34 (by decide), rows1_eq, ids1_eq, book1_eq,
    res0_eq, keepB0 _ main_v13 (by decide), keepA0 _ main_v13 (by decide), rows0_eq, ids0_eq, book0_eq, z_eq,
    keepC1 _ main_arg7 (by decide), keepB1 _ main_arg7 (by decide), keepA1 _ main_arg7 (by decide), keepC0 _ main_arg7 (by decide),
    keepB0 _ main_arg7 (by decide), keepA0 _ main_arg7 (by decide), keepMlp _ main_arg7 (by decide)]
  rfl

theorem after_quant : after ops V (Proc.devRef .tc main_v73) = refQuant (refZ V) (V (Proc.devRef .tc main_arg7)) := by
  simp only [ops, opsFront, opsBack, after_append]
  rw [keepTail _ main_v73 (by decide), quant2_eq, keepB2 _ main_v53 (by decide), keepA2 _ main_v53 (by decide), quant1_eq,
    keepB1 _ main_v33 (by decide), keepA1 _ main_v33 (by decide), quant0_eq, keepB0 _ main_v14 (by decide), keepA0 _ main_v14 (by decide),
    zero_eq, rows2_eq, ids2_eq, book2_eq, res1_eq, keepB1 _ main_v34 (by decide), keepA1 _ main_v34 (by decide), rows1_eq, ids1_eq, book1_eq,
    res0_eq, keepB0 _ main_v13 (by decide), keepA0 _ main_v13 (by decide), rows0_eq, ids0_eq, book0_eq, z_eq,
    keepC1 _ main_arg7 (by decide), keepB1 _ main_arg7 (by decide), keepA1 _ main_arg7 (by decide), keepC0 _ main_arg7 (by decide),
    keepB0 _ main_arg7 (by decide), keepA0 _ main_arg7 (by decide), keepMlp _ main_arg7 (by decide)]
  rfl

/-- The run: both results, and the arguments kept. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v78) = refIds (refZ (launchContents m c)) (m ((c.tc : Thread nD τ).loc main_arg7))
      ∧ r.2.mem ((c.tc : Thread nD τ).loc main_v73) = refQuant (refZ (launchContents m c)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c =>
    ⟨(h c main_v78).trans (after_ids (launchContents m c)), (h c main_v73).trans (after_quant (launchContents m c)),
      (h c main_arg0).trans (keep_all _ main_arg0 (by decide)), (h c main_arg1).trans (keep_all _ main_arg1 (by decide)),
      (h c main_arg2).trans (keep_all _ main_arg2 (by decide)), (h c main_arg3).trans (keep_all _ main_arg3 (by decide)),
      (h c main_arg4).trans (keep_all _ main_arg4 (by decide)), (h c main_arg5).trans (keep_all _ main_arg5 (by decide)),
      (h c main_arg6).trans (keep_all _ main_arg6 (by decide)), (h c main_arg7).trans (keep_all _ main_arg7 (by decide))⟩)
    (run_seq scopedRefs_eq scopedSems_eq defs main (fun _ => ops) main_eq (fun _ => forall_append opsFront_sub opsBack_sub) m ρ
      fun _ => ops_fresh)

end Cert.Proof.Ref

end
-- ==== Proof.Rows.lean ====
/-
The mathematics of one row: the encoder, the squared distances to a codebook, the nearest codebook row, and the three levels
of residual quantization. Everything is stated over the extended reals; a row all of whose entries are real numbers stays so
through the encoder and through every level.
-/
module

public import Mathlib.Data.EReal.Operations
public import Mathlib.Data.Finset.Max
public import Mathlib.Data.Finset.Fold
public import Mathlib.Algebra.BigOperators.Fin
public import Mathlib.Tactic.Ring
public import Mathlib.Tactic.NormNum

@[expose] public section
noncomputable section

namespace Cert.Proof.Rows

/-- An extended real that is a real number. -/
def IsReal (x : EReal) : Prop := ∃ a : ℝ, x = (a : EReal)

theorem IsReal.zero : IsReal 0 := ⟨0, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.max {x y : EReal} (hx : IsReal x) (hy : IsReal y) : IsReal (max x y) := by
  rcases max_choice x y with h | h <;> rw [h] <;> assumption

theorem IsReal.sum {ι : Type} (s : Finset ι) (f : ι → EReal) (h : ∀ i, IsReal (f i)) : IsReal (∑ i ∈ s, f i) := by
  classical
  induction s using Finset.induction_on with
  | empty => simpa using IsReal.zero
  | insert a s ha ih => rw [Finset.sum_insert ha]; exact (h a).add ih

theorem IsReal.sub_self {x : EReal} (hx : IsReal x) : x - x = 0 := by
  obtain ⟨a, rfl⟩ := hx; rw [← EReal.coe_sub, _root_.sub_self, EReal.coe_zero]

/-- A dense layer on one row. -/
def dense {n k : ℕ} (x : Fin n → EReal) (w : Fin n → Fin k → EReal) (b : Fin k → EReal) (j : Fin k) : EReal :=
  ∑ i, x i * w i j + b j

/-- A dense layer followed by a maximum with zero. -/
def hidden {n k : ℕ} (x : Fin n → EReal) (w : Fin n → Fin k → EReal) (b : Fin k → EReal) (j : Fin k) : EReal :=
  max (dense x w b j) 0

/-- The encoder on one row. -/
def latent (x : Fin 768 → EReal) (w1 : Fin 768 → Fin 512 → EReal) (b1 : Fin 512 → EReal) (w2 : Fin 512 → Fin 256 → EReal)
    (b2 : Fin 256 → EReal) (w3 : Fin 256 → Fin 64 → EReal) (b3 : Fin 64 → EReal) : Fin 64 → EReal :=
  dense (hidden (hidden x w1 b1) w2 b2) w3 b3

theorem dense_real {n k : ℕ} {x : Fin n → EReal} {w : Fin n → Fin k → EReal} {b : Fin k → EReal} (hx : ∀ i, IsReal (x i))
    (hw : ∀ i j, IsReal (w i j)) (hb : ∀ j, IsReal (b j)) (j : Fin k) : IsReal (dense x w b j) :=
  (IsReal.sum _ _ fun i => (hx i).mul (hw i j)).add (hb j)

theorem hidden_real {n k : ℕ} {x : Fin n → EReal} {w : Fin n → Fin k → EReal} {b : Fin k → EReal} (hx : ∀ i, IsReal (x i))
    (hw : ∀ i j, IsReal (w i j)) (hb : ∀ j, IsReal (b j)) (j : Fin k) : IsReal (hidden x w b j) :=
  (dense_real hx hw hb j).max IsReal.zero

/-- Finite rows and parameters have a finite latent. -/
theorem latent_real {x : Fin 768 → EReal} {w1 : Fin 768 → Fin 512 → EReal} {b1 : Fin 512 → EReal} {w2 : Fin 512 → Fin 256 → EReal}
    {b2 : Fin 256 → EReal} {w3 : Fin 256 → Fin 64 → EReal} {b3 : Fin 64 → EReal} (hx : ∀ i, IsReal (x i)) (h1 : ∀ i j, IsReal (w1 i j))
    (hb1 : ∀ j, IsReal (b1 j)) (h2 : ∀ i j, IsReal (w2 i j)) (hb2 : ∀ j, IsReal (b2 j)) (h3 : ∀ i j, IsReal (w3 i j))
    (hb3 : ∀ j, IsReal (b3 j)) (j : Fin 64) : IsReal (latent x w1 b1 w2 b2 w3 b3 j) :=
  dense_real (hidden_real (hidden_real hx h1 hb1) h2 hb2) h3 hb3 j

/-- The squared length of a row. -/
def lenSq (r : Fin 64 → EReal) : EReal := ∑ k, r k * r k

/-- The squared distance of a row to a codebook row, as the square expanded. -/
def dist (r c : Fin 64 → EReal) : EReal := (lenSq r - 2 * ∑ k, r k * c k) + lenSq c

/-- Scaling the row by -2 before the product, and adding, gives the same distance: of real numbers, the scalar leaves the
sum. -/
theorem dist_scaled (r c : Fin 64 → EReal) (hr : ∀ k, IsReal (r k)) (hc : ∀ k, IsReal (c k)) :
    (lenSq r + ∑ k, r k * (((-2 : ℝ)) : EReal) * c k) + lenSq c = dist r c := by
  choose a ha using hr
  choose b hb using hc
  have h1 : ∀ f : Fin 64 → ℝ, ∑ k, ((f k : ℝ) : EReal) = ((∑ k, f k : ℝ) : EReal) := fun f => by
    induction (Finset.univ : Finset (Fin 64)) using Finset.induction_on with
    | empty => simp
    | insert i s hi ih => rw [Finset.sum_insert hi, Finset.sum_insert hi, ih, EReal.coe_add]
  have h2 : (2 : EReal) = ((2 : ℝ) : EReal) := rfl
  simp only [dist, lenSq, ha, hb, h2, ← EReal.coe_mul, h1, ← EReal.coe_add, ← EReal.coe_sub]
  congr 2
  rw [sub_eq_add_neg, Finset.mul_sum, ← Finset.sum_neg_distrib]
  congr 1
  exact Finset.sum_congr rfl fun k _ => by ring

/-- `i` is the first place where `d` attains its minimum. -/
def IsFirst {n : ℕ} (d : Fin n → EReal) (i : Fin n) : Prop := (∀ j, d i ≤ d j) ∧ ∀ j, d j = d i → i ≤ j

theorem IsFirst.unique {n : ℕ} {d : Fin n → EReal} {i j : Fin n} (hi : IsFirst d i) (hj : IsFirst d j) : i = j :=
  le_antisymm (hi.2 j (le_antisymm (hj.1 i) (hi.1 j))) (hj.2 i (le_antisymm (hi.1 j) (hj.1 i)))

theorem exists_first (d : Fin 1024 → EReal) : ∃ i, IsFirst d i := by
  classical
  obtain ⟨m, -, hm⟩ := Finset.exists_min_image Finset.univ d ⟨0, Finset.mem_univ _⟩
  have hne : (Finset.univ.filter fun j => d j = d m).Nonempty := ⟨m, by simp⟩
  have hmem := Finset.min'_mem _ hne
  have he : d (Finset.min' _ hne) = d m := (Finset.mem_filter.mp hmem).2
  refine ⟨Finset.min' _ hne, fun j => he.le.trans (hm j (Finset.mem_univ j)), fun j hj => Finset.min'_le _ _ ?_⟩
  rw [Finset.mem_filter]
  exact ⟨Finset.mem_univ _, hj.trans he⟩

/-- The first place where a row of 1024 distances attains its minimum. -/
def first (d : Fin 1024 → EReal) : Fin 1024 := (exists_first d).choose

theorem first_spec (d : Fin 1024 → EReal) : IsFirst d (first d) := (exists_first d).choose_spec

theorem eq_first {d : Fin 1024 → EReal} {i : Fin 1024} (h : IsFirst d i) : i = first d := h.unique (first_spec d)

/-- The codebook row nearest to a row, the first among equally near ones. -/
def near (r : Fin 64 → EReal) (c : Fin 1024 → Fin 64 → EReal) : Fin 1024 := first fun j => dist r (c j)

/-- What is left of a row once the nearest codebook row is subtracted. -/
def rest (r : Fin 64 → EReal) (c : Fin 1024 → Fin 64 → EReal) (k : Fin 64) : EReal := r k - c (near r c) k

theorem rest_real {r : Fin 64 → EReal} {c : Fin 1024 → Fin 64 → EReal} (hr : ∀ k, IsReal (r k)) (hc : ∀ j k, IsReal (c j k))
    (k : Fin 64) : IsReal (rest r c k) := (hr k).sub (hc _ k)

/-- The three indices of a latent row. -/
def code (z : Fin 64 → EReal) (c0 c1 c2 : Fin 1024 → Fin 64 → EReal) (l : Fin 3) : Fin 1024 :=
  if l.val < 1 then near z c0 else if l.val - 1 < 1 then near (rest z c0) c1 else near (rest (rest z c0) c1) c2

/-- The sum of the three codebook rows of a latent row. -/
def total (z : Fin 64 → EReal) (c0 c1 c2 : Fin 1024 → Fin 64 → EReal) (k : Fin 64) : EReal :=
  ((0 + c0 (near z c0) k) + c1 (near (rest z c0) c1) k) + c2 (near (rest (rest z c0) c1) c2) k

/-- A fold whose operation keeps one of the folded values against every other, and against the start, is that value. -/
theorem fold_eq {ι α : Type} [DecidableEq ι] (op : α → α → α) [hc : Std.Commutative op] [ha : Std.Associative op] (b : α) (f : ι → α)
    (s : Finset ι) (i : ι) (hi : i ∈ s) (hb : op (f i) b = f i) (h : ∀ j, op (f i) (f j) = f i) : s.fold op b f = f i := by
  have key : ∀ t : Finset ι, op (f i) (t.fold op b f) = f i := fun t => by
    induction t using Finset.induction_on with
    | empty => simpa using hb
    | insert j t hj ih => rw [Finset.fold_insert hj, ← ha.assoc, h, ih]
  rw [← Finset.insert_erase hi, Finset.fold_insert (Finset.notMem_erase i s), key]

/-- The minimum of a row of distances is the distance at `first`. -/
theorem fold_min (d : Fin 1024 → EReal) : Finset.univ.fold min ⊤ d = d (first d) :=
  fold_eq min ⊤ d Finset.univ (first d) (Finset.mem_univ _) (min_eq_left le_top) fun j => min_eq_left ((first_spec d).1 j)

/-- A sum in which only the term of one place can be nonzero is that term: the product with a 0/1 row that is 1 at `i`. -/
theorem sum_pick {n : ℕ} (i : Fin n) (p c : Fin n → EReal) (h1 : p i = 1) (h0 : ∀ j, j ≠ i → p j = 0) : ∑ j, p j * c j = c i := by
  rw [Finset.sum_eq_single i (fun j _ hj => by rw [h0 j hj, zero_mul]) (fun h => absurd (Finset.mem_univ i) h), h1, one_mul]

end Cert.Proof.Rows

end
-- ==== Proof.Words.lean ====
/-
The first minimum of a row as the two programs compute it: the kernel by a minimum over the lanes that attain the minimum, the
reference by a fold of (value, lane) pairs that keeps the smaller value and, of equal values, the smaller lane.
-/
module

public import proofs.«01_k».proof.Proof.Rows
public import proofs.«01_k».proof.Proof.Gen.ReferenceIdeal
public import Idealize.ShloMosaic.PureOps.Ideal.Laws

@[expose] public section
set_option maxRecDepth 16384
noncomputable section

namespace Cert.Proof.Words

open Idealize.ShloMosaic Cert.Proof.Rows

theorem ofBits_inf : Ideal.ofBits .f32 0x7F800000#32 = ⊤ := by simp [Ideal.ofBits, Ideal.ieee]

theorem ofBits_two : Ideal.ofBits .f32 0x40000000#32 = ((2 : ℝ) : EReal) := by
  simp [Ideal.ofBits, Ideal.ieee, -EReal.coe_mul, -EReal.coe_neg]; norm_num

theorem ofBits_neg_two : Ideal.ofBits .f32 0xC0000000#32 = ((-2 : ℝ) : EReal) := by
  simp [Ideal.ofBits, Ideal.ieee, -EReal.coe_mul, -EReal.coe_neg]; norm_num

/-- The signed order of two small words is the order of the numbers. -/
theorem slt_ofNat {a b : ℕ} (ha : a < 2 ^ 31) (hb : b < 2 ^ 31) : (BitVec.ofNat 32 a).slt (BitVec.ofNat 32 b) = decide (a < b) := by
  have h : ∀ n : ℕ, n < 2 ^ 31 → (BitVec.ofNat 32 n).toInt = (n : ℤ) := fun n hn => by
    rw [BitVec.toInt_eq_toNat_cond, BitVec.toNat_ofNat, Nat.mod_eq_of_lt (by omega), if_pos (by omega)]
  rw [BitVec.slt_eq_decide, h a ha, h b hb]
  simp

theorem minsi_ofNat {a b : ℕ} (hb : b < 2 ^ 31) (h : a ≤ b) :
    IntOp.minsi (BitVec.ofNat 32 a) (BitVec.ofNat 32 b) = BitVec.ofNat 32 a := by
  unfold IntOp.minsi
  rw [slt_ofNat (by omega) hb]
  split
  · rfl
  · rename_i hn
    have : a = b := by simp at hn; omega
    rw [this]

/-- The least lane among those attaining the minimum, lanes that do not attain it counting as 1024. -/
theorem fold_minsi (d : Fin 1024 → EReal) :
    Finset.univ.fold IntOp.minsi 2147483647#32 (fun x => if d x = d (first d) then BitVec.ofNat 32 x.val else 1024#32)
      = BitVec.ofNat 32 (first d).val := by
  have e : (if d (first d) = d (first d) then BitVec.ofNat 32 (first d).val else 1024#32) = BitVec.ofNat 32 (first d).val := if_pos rfl
  have hf := (first d).isLt
  refine (fold_eq IntOp.minsi 2147483647#32 (fun x : Fin 1024 => if d x = d (first d) then BitVec.ofNat 32 x.val else 1024#32)
    Finset.univ (first d) (Finset.mem_univ _) ?_ fun j => ?_).trans e
  · show IntOp.minsi (ite _ _ _) _ = ite _ _ _
    rw [e]
    exact minsi_ofNat (b := 2147483647) (by omega) (by omega)
  · show IntOp.minsi (ite _ _ _) (ite _ _ _) = ite _ _ _
    rw [e]
    split
    · rename_i h
      have := (first_spec d).2 j h
      exact minsi_ofNat (by have := j.isLt; omega) this
    · exact minsi_ofNat (b := 1024) (by omega) (by omega)

/-- One step of the reference's fold: keep the left pair when its value is smaller, or equal with a smaller lane. -/
theorem reducer_eq (a b : EReal × BitVec 32) :
    Cert.ReferenceIdeal.reducer_argmin_f32_i32 (F := Ideal) a b
      = if a.1 < b.1 ∨ (a.1 = b.1 ∧ a.2.slt b.2 = true) then a else b := by
  obtain ⟨v, w⟩ := a
  obtain ⟨v', w'⟩ := b
  have hb : ∀ (p e l : Bool), (if (BitVec.ofBool p ||| BitVec.ofBool false) ||| (BitVec.ofBool e &&& BitVec.ofBool l) = 1#1 then w else w')
      = if p = true ∨ (e = true ∧ l = true) then w else w' := fun p e l => by cases p <;> cases e <;> cases l <;> rfl
  have hv : ∀ p : Bool, (if BitVec.ofBool p ||| BitVec.ofBool false = 1#1 then v else v') = if p = true then v else v' := fun p => by
    cases p <;> rfl
  have hne : decide (v ≠ v) = false := by simp
  have e : Cert.ReferenceIdeal.reducer_argmin_f32_i32 (F := Ideal) (v, w) (v', w')
      = (if BitVec.ofBool (decide (v < v')) ||| BitVec.ofBool (decide (v ≠ v)) = 1#1 then v else v',
         if (BitVec.ofBool (decide (v < v')) ||| BitVec.ofBool (decide (v ≠ v)))
            ||| (BitVec.ofBool (decide (v = v')) &&& BitVec.ofBool (w.slt w')) = 1#1 then w else w') := rfl
  rw [e]
  simp only [hne]
  refine Prod.ext ?_ ?_
  · refine (hv _).trans ?_
    by_cases h : v < v'
    · simp [h]
    · by_cases h2 : v = v' ∧ w.slt w' = true
      · simp [h2.1, h2.2]
      · simp [h, h2]
  · refine (hb _ _ _).trans ?_
    simp only [decide_eq_true_eq]
    split <;> rfl

/-- The fold over any list of a row's (distance, lane) pairs that misses no lane ends at the first minimum. -/
theorem foldl_first (d : Fin 1024 → EReal) (L : List (EReal × BitVec 32))
    (hmem : ∀ p ∈ L, ∃ i : Fin 1024, p = (d i, BitVec.ofNat 32 i.val)) (hall : ∀ i : Fin 1024, (d i, BitVec.ofNat 32 i.val) ∈ L) :
    (L.foldl (Cert.ReferenceIdeal.reducer_argmin_f32_i32 (F := Ideal)) (⊤, 0#32)).2 = BitVec.ofNat 32 (first d).val := by
  -- a state holds a small lane, and either a pair met or the start
  let Inv : List (EReal × BitVec 32) → EReal × BitVec 32 → Prop := fun M s =>
    ∃ n : ℕ, n < 1024 ∧ s.2 = BitVec.ofNat 32 n ∧ (s = (⊤, 0#32) ∨ ∃ i : Fin 1024, i.val = n ∧ s.1 = d i)
      ∧ ∀ i : Fin 1024, (d i, BitVec.ofNat 32 i.val) ∈ M → s.1 ≤ d i ∧ (d i = s.1 → n ≤ i.val)
  have step : ∀ (M : List (EReal × BitVec 32)) (s : EReal × BitVec 32) (i : Fin 1024), Inv M s →
      Inv ((d i, BitVec.ofNat 32 i.val) :: M) (Cert.ReferenceIdeal.reducer_argmin_f32_i32 (F := Ideal) s (d i, BitVec.ofNat 32 i.val)) := by
    rintro M ⟨v, w⟩ i ⟨n, hn, hw, hor, hle⟩
    have hi := i.isLt
    have hinj : ∀ j : Fin 1024, BitVec.ofNat 32 j.val = BitVec.ofNat 32 i.val → j = i := fun j hj => by
      have hj' := j.isLt
      have := congrArg BitVec.toNat hj
      rw [BitVec.toNat_ofNat, BitVec.toNat_ofNat, Nat.mod_eq_of_lt (by omega), Nat.mod_eq_of_lt (by omega)] at this
      exact Fin.ext this
    simp only at hw hor hle
    rw [reducer_eq]
    simp only [hw, slt_ofNat (show n < 2 ^ 31 by omega) (show i.val < 2 ^ 31 by omega), decide_eq_true_eq]
    split
    · rename_i h
      refine ⟨n, hn, rfl, by rw [hw] at hor; exact hor, fun j hj => ?_⟩
      rcases List.mem_cons.mp hj with hj | hj
      · obtain rfl := hinj j (Prod.ext_iff.mp hj).2
        rcases h with h | h
        · exact ⟨h.le, fun he => absurd he h.ne'⟩
        · exact ⟨h.1.le, fun _ => h.2.le⟩
      · exact hle j hj
    · rename_i h
      refine ⟨i.val, hi, rfl, .inr ⟨i, rfl, rfl⟩, fun j hj => ?_⟩
      rcases List.mem_cons.mp hj with hj | hj
      · obtain rfl := hinj j (Prod.ext_iff.mp hj).2
        exact ⟨le_rfl, fun _ => le_rfl⟩
      · obtain ⟨h1, h2⟩ := hle j hj
        have hv : d i ≤ v := not_lt.mp fun hlt => h (.inl hlt)
        refine ⟨hv.trans h1, fun he => ?_⟩
        have hvi : v = d i := le_antisymm (h1.trans he.le) hv
        have : ¬ n < i.val := fun hlt => h (.inr ⟨hvi, hlt⟩)
        have := h2 (he.trans hvi.symm)
        omega
  have run : ∀ (M N : List (EReal × BitVec 32)) (s : EReal × BitVec 32), (∀ p ∈ N, ∃ i : Fin 1024, p = (d i, BitVec.ofNat 32 i.val)) → Inv M s →
      Inv (N.reverse ++ M) (N.foldl (Cert.ReferenceIdeal.reducer_argmin_f32_i32 (F := Ideal)) s) := by
    intro M N
    induction N generalizing M with
    | nil => intro s _ h; simpa using h
    | cons p N ih =>
      intro s hN h
      obtain ⟨i, rfl⟩ := hN p (List.mem_cons_self ..)
      have := ih (_ :: M) _ (fun q hq => hN q (List.mem_cons_of_mem _ hq)) (step M s i h)
      simpa using this
  obtain ⟨n, hn, hw, hor, hle⟩ := run [] L (⊤, 0#32) hmem ⟨0, by omega, rfl, .inl rfl, fun _ h => absurd h List.not_mem_nil⟩
  rw [hw]
  have hle' := fun i : Fin 1024 => hle i (by simpa using hall i)
  have hfirst : IsFirst d ⟨n, hn⟩ := by
    rcases hor with h | ⟨i, hi, h⟩
    · rw [h] at hle' hw
      have hn0 : n = 0 := by
        have := congrArg BitVec.toNat hw
        simp only [BitVec.toNat_ofNat] at this
        rw [Nat.mod_eq_of_lt (by omega : n < 2 ^ 32)] at this
        omega
      have htop : ∀ j, d j = ⊤ := fun j => top_le_iff.mp (hle' j).1
      exact ⟨fun j => by rw [htop, htop], fun j _ => Fin.mk_le_of_le_val (by omega)⟩
    · obtain rfl : i = ⟨n, hn⟩ := Fin.ext hi
      exact ⟨fun j => h ▸ (hle' j).1, fun j hj => Fin.mk_le_of_le_val ((hle' j).2 (hj.trans h.symm))⟩
  rw [← eq_first hfirst]

end Cert.Proof.Words

end
-- ==== Proof.Finite.lean ====
/-
The precondition read: when `finite` holds of the eight arguments, every entry of each of them is a real number.
-/
module

public import proofs.«01_k».proof.Proof.Words
public import proofs.«01_k».proof.Pre_finite
public import Idealize.ShloMosaic.Lib.ValueIdx
public import Idealize.ShloMosaic.PureOps

@[expose] public section
set_option maxRecDepth 16384
noncomputable section

namespace Cert.Proof.Finite

open Idealize.ShloMosaic Idealize.ShloMosaic.ValueIdx
open Cert.Proof.Rows Cert.Proof.Words Cert.Pre_finite Cert.Pre_finite.Facts

/-- The relations between shapes that the precondition's operations take. -/
theorem facts : Cert.Pre_finite.Facts := by constructor <;> decide

/-- A bit that is the conjunction of two is 1 only when both are. -/
theorem and_bits (a b : BitVec 1) (h : IntOp.andi a b = 1#1) : a = 1#1 ∧ b = 1#1 := by
  revert a b; decide

/-- A conjunction over a set that comes out 1 has only 1s in it. -/
theorem fold_and {ι : Type} [DecidableEq ι] (f : ι → BitVec 1) (s : Finset ι) (h : s.fold IntOp.andi 1#1 f = 1#1) : ∀ i ∈ s, f i = 1#1 := by
  induction s using Finset.induction_on with
  | empty => intro i hi; exact absurd hi (Finset.notMem_empty i)
  | insert j t hj ih =>
    rw [Finset.fold_insert hj] at h
    obtain ⟨h1, h2⟩ := and_bits _ _ h
    intro i hi
    rcases Finset.mem_insert.mp hi with rfl | hi
    · exact h1
    · exact ih h2 i hi

/-- An array all of whose absolute values are below infinity holds real numbers. -/
theorem all_real {s t : Shape} {axes : List (Fin s.rank)} (a v : FVec Ideal s .f32) (hv : ∀ i, v i = ⊤) (h : s.ReducesTo axes t)
    (u : Shape) (one : IVec u 1) (h1 : ∀ i, one i = 1#1) (hu : 0 < u.numel) (j : t.Idx) (hj : ∀ i, h.drop i = j)
    (e : Host.reduce IntOp.andi (cmpf .olt (Host.absf a) v) one h hu j = 1#1) (i : s.Idx) : IsReal (a i) := by
  rw [Host.reduce_eq_fold, h1] at e
  have := fold_and _ _ e i (Finset.mem_filter.mpr ⟨Finset.mem_univ _, hj i⟩)
  have hlt : max (a i) (-(a i)) < v i := by
    by_contra hn
    have h0 : cmpf .olt (Host.absf a) v i = BitVec.ofBool (decide (max (a i) (-(a i)) < v i)) := rfl
    rw [h0, decide_eq_false hn] at this
    exact absurd this (by decide)
  rw [hv] at hlt
  obtain ⟨ht, hb⟩ := max_lt_iff.mp hlt
  generalize a i = r at ht hb
  induction r using EReal.rec with
  | bot => exact absurd hb (by simp)
  | top => exact absurd ht (by simp)
  | coe r => exact ⟨r, rfl⟩

/-- What the precondition says, entry by entry. -/
theorem finite_real [Cert.Pre_finite.Facts] (a0 : FVec Ideal S16384x768 .f32) (a1 : FVec Ideal S768x512 .f32) (a2 : FVec Ideal S512 .f32)
    (a3 : FVec Ideal S512x256 .f32) (a4 : FVec Ideal S256 .f32) (a5 : FVec Ideal S256x64 .f32) (a6 : FVec Ideal S64 .f32)
    (a7 : FVec Ideal S3x1024x64 .f32) (h : fn a0 a1 a2 a3 a4 a5 a6 a7 = fun _ => 1#1) :
    (∀ i, IsReal (a0 i)) ∧ (∀ i, IsReal (a1 i)) ∧ (∀ i, IsReal (a2 i)) ∧ (∀ i, IsReal (a3 i)) ∧ (∀ i, IsReal (a4 i)) ∧ (∀ i, IsReal (a5 i))
      ∧ (∀ i, IsReal (a6 i)) ∧ ∀ i, IsReal (a7 i) := by
  have e := congrFun h ix0
  obtain ⟨e, e7⟩ := and_bits _ _ e
  obtain ⟨e, e6⟩ := and_bits _ _ e
  obtain ⟨e, e5⟩ := and_bits _ _ e
  obtain ⟨e, e4⟩ := and_bits _ _ e
  obtain ⟨e, e3⟩ := and_bits _ _ e
  obtain ⟨e, e2⟩ := and_bits _ _ e
  obtain ⟨e0, e1⟩ := and_bits _ _ e
  have one : ∀ i, constantI S_ 1 1#1 i = 1#1 := fun _ => rfl
  have sub : ∀ {s : Shape} {axes : List (Fin s.rank)} (h : s.ReducesTo axes S_) (i : s.Idx), h.drop i = ix0 := fun h i => (eq_ix0 _)
  exact ⟨all_real a0 _ (fun _ => ofBits_inf) _ _ _ one _ _ (sub _) e0, all_real a1 _ (fun _ => ofBits_inf) _ _ _ one _ _ (sub _) e1,
    all_real a2 _ (fun _ => ofBits_inf) _ _ _ one _ _ (sub _) e2, all_real a3 _ (fun _ => ofBits_inf) _ _ _ one _ _ (sub _) e3,
    all_real a4 _ (fun _ => ofBits_inf) _ _ _ one _ _ (sub _) e4, all_real a5 _ (fun _ => ofBits_inf) _ _ _ one _ _ (sub _) e5,
    all_real a6 _ (fun _ => ofBits_inf) _ _ _ one _ _ (sub _) e6, all_real a7 _ (fun _ => ofBits_inf) _ _ _ one _ _ (sub _) e7⟩

end Cert.Proof.Finite

end
-- ==== Proof.Chunk.lean ====
/-
One chunk of 256 rows of the kernel: the computation every one of the eight chunks of a block performs, and the statement
that the blocks' stores are that computation at each chunk.
-/
module

public import proofs.«01_k».proof.Proof.Gen.KernelIdeal.Value

@[expose] public section
set_option maxRecDepth 16384
noncomputable section

namespace Cert.Proof.Chunk

open Cert.KernelIdeal Cert.KernelIdeal.Gen
open Idealize.ShloMosaic Idealize.ShloMosaic.TcCoe

variable {F : FTy → Type} [FloatOps F]

/-- The lane number of every position of a 256 x 1024 tile. -/
def lanes : IVec S256x1024 32 := iota .tc S256x1024 32 [1]

/-- The encoder on 256 rows: three dense layers, the first two followed by a maximum with zero. -/
def latent (x : Vec F S256x768 .f32) (w1 : Vec F S768x512 .f32) (b1 : Vec F S1x512 .f32) (w2 : Vec F S512x256 .f32)
    (b2 : Vec F S1x256 .f32) (w3 : Vec F S256x64 .f32) (b3 : Vec F S1x64 .f32) : FVec F S256x64 .f32 :=
  k0_pay28 (k0_pay27 x w1 b1 w2 b2) w3 b3

/-- The squared distances of 256 rows to the 1024 rows of a codebook whose squared lengths are `cn`. -/
def dist (r : FVec F S256x64 .f32) (cb : Vec F S1x1024x64 .f32) (cn : Vec F S1x1x1024 .f32) : FVec F S256x1024 .f32 :=
  k0_pay39 r cb cn

/-- The least lane that attains a row's minimum. -/
def nearest (d : FVec F S256x1024 .f32) : IVec S256x1 32 := k0_pay37 lanes d

/-- The codebook rows picked by a product with the 0/1 matrix of `nearest`, high and low halves added. -/
def picked (d : FVec F S256x1024 .f32) (hi lo : Vec F S1x1024x64 .bf16) : FVec F S256x64 .f32 :=
  k0_pay44 (k0_pay38 lanes d) hi lo

/-- The four tables of one level: the codebook, the squared lengths of its rows, and its two halves. -/
structure Level (F : FTy → Type) where
  /-- the codebook -/
  cb : Vec F S1x1024x64 .f32
  /-- the squared lengths of its rows -/
  cn : Vec F S1x1x1024 .f32
  /-- its high half -/
  hi : Vec F S1x1024x64 .bf16
  /-- its low half -/
  lo : Vec F S1x1024x64 .bf16

/-- The distances at a level. -/
def Level.dist (L : Level F) (r : FVec F S256x64 .f32) : FVec F S256x1024 .f32 := Chunk.dist r L.cb L.cn

/-- The indices at a level. -/
def Level.nearest (L : Level F) (r : FVec F S256x64 .f32) : IVec S256x1 32 := Chunk.nearest (L.dist r)

/-- The rows picked at a level. -/
def Level.picked (L : Level F) (r : FVec F S256x64 .f32) : FVec F S256x64 .f32 := Chunk.picked (L.dist r) L.hi L.lo

/-- What a level leaves. -/
def Level.left (L : Level F) (r : FVec F S256x64 .f32) : FVec F S256x64 .f32 := subf r (L.picked r)

/-- The indices of 256 latent rows at the three levels, one column each. -/
def ids (z : FVec F S256x64 .f32) (L0 L1 L2 : Level F) : IVec S256x3 32 :=
  k0_pay199 (L0.nearest z) (L1.nearest (L0.left z)) (L2.nearest (L1.left (L0.left z)))

/-- The sum, from zero, of the rows picked at the three levels. -/
def quant (z : FVec F S256x64 .f32) (L0 L1 L2 : Level F) : FVec F S256x64 .f32 :=
  addf (addf (addf k0_pay19 (L0.picked z)) (L1.picked (L0.left z))) (L2.picked (L1.left (L0.left z)))

/-- The latent of the chunk whose rows start at `o` of the block, from the block and the parameters as the launch holds them. -/
def latentAt (arg1 : Memref sig .tc .vmem S2048x768 .f32) (harg1 : arg1.IsWhole) (arg2 : Memref sig .tc .vmem S768x512 .f32) (harg2 : arg2.IsWhole)
    (arg3 : Memref sig .tc .vmem S1x512 .f32) (harg3 : arg3.IsWhole) (arg4 : Memref sig .tc .vmem S512x256 .f32) (harg4 : arg4.IsWhole)
    (arg5 : Memref sig .tc .vmem S1x256 .f32) (harg5 : arg5.IsWhole) (arg6 : Memref sig .tc .vmem S256x64 .f32) (harg6 : arg6.IsWhole)
    (arg7 : Memref sig .tc .vmem S1x64 .f32) (harg7 : arg7.IsWhole)
    (x0 : Vec F S2048x768 .f32) (x1 : Vec F S768x512 .f32) (x2 : Vec F S1x512 .f32) (x3 : Vec F S512x256 .f32) (x4 : Vec F S1x256 .f32)
    (x5 : Vec F S256x64 .f32) (x6 : Vec F S1x64 .f32) (o : ℕ) (ho : ∀ a, (![o, 0] : Fin 2 → ℕ) a + S256x768.size a ≤ S2048x768.size a) : FVec F S256x64 .f32 :=
  latent (View.readAt (Elt F) arg1.view (Rect.unit (s := S2048x768) ![o, 0] S256x768.size ho).toLoadRect (harg1.unread x0))
    (View.readAt (Elt F) arg2.view (Rect.unit ![0, 0] S768x512.size inb_S768x512_S768x512_0_0).toLoadRect (harg2.unread x1))
    (View.readAt (Elt F) arg3.view (Rect.unit ![0, 0] S1x512.size inb_S1x512_S1x512_0_0).toLoadRect (harg3.unread x2))
    (View.readAt (Elt F) arg4.view (Rect.unit ![0, 0] S512x256.size inb_S512x256_S512x256_0_0).toLoadRect (harg4.unread x3))
    (View.readAt (Elt F) arg5.view (Rect.unit ![0, 0] S1x256.size inb_S1x256_S1x256_0_0).toLoadRect (harg5.unread x4))
    (View.readAt (Elt F) arg6.view (Rect.unit ![0, 0] S256x64.size inb_S256x64_S256x64_0_0).toLoadRect (harg6.unread x5))
    (View.readAt (Elt F) arg7.view (Rect.unit ![0, 0] S1x64.size inb_S1x64_S1x64_0_0).toLoadRect (harg7.unread x6))

/-- The tables of level `k` as a later point reads them: the codebook from its window, the rest from the carried scratch. -/
def levelB (arg8 : Memref sig .tc .vmem S3x1024x64 .f32) (harg8 : arg8.IsWhole) (arg11 : Memref sig .tc .vmem S3x1x1024 .f32) (harg11 : arg11.IsWhole)
    (arg12 : Memref sig .tc .vmem S3x1024x64 .bf16) (harg12 : arg12.IsWhole) (arg13 : Memref sig .tc .vmem S3x1024x64 .bf16) (harg13 : arg13.IsWhole)
    (x7 : Vec F S3x1024x64 .f32) (xs0 : Vec F S3x1x1024 .f32) (xs1 xs2 : Vec F S3x1024x64 .bf16) (k : ℕ)
    (h : ∀ a, (![k, 0, 0] : Fin 3 → ℕ) a + S1x1024x64.size a ≤ S3x1024x64.size a) (h' : ∀ a, (![k, 0, 0] : Fin 3 → ℕ) a + S1x1x1024.size a ≤ S3x1x1024.size a) : Level F :=
  ⟨View.readAt (Elt F) arg8.view (Rect.unit (s := S3x1024x64) ![k, 0, 0] S1x1024x64.size h).toLoadRect (harg8.unread x7),
   View.readAt (Elt F) arg11.view (Rect.unit (s := S3x1x1024) ![k, 0, 0] S1x1x1024.size h').toLoadRect (harg11.unread xs0),
   View.readAt (Elt F) arg12.view (Rect.unit (s := S3x1024x64) ![k, 0, 0] S1x1024x64.size h).toLoadRect (harg12.unread xs1),
   View.readAt (Elt F) arg13.view (Rect.unit (s := S3x1024x64) ![k, 0, 0] S1x1024x64.size h).toLoadRect (harg13.unread xs2)⟩

/-- The tables of level `k` as the first point reads them: the codebook from its window, the rest from what this same
point has just stored in the scratch. -/
def levelA (c : Dev nD) (arg8 : Memref sig .tc .vmem S3x1024x64 .f32) (harg8 : arg8.IsWhole) (arg11 : Memref sig .tc .vmem S3x1x1024 .f32)
    (arg12 arg13 : Memref sig .tc .vmem S3x1024x64 .bf16)
    (x7 : Vec F S3x1024x64 .f32) (k : ℕ)
    (h : ∀ a, (![k, 0, 0] : Fin 3 → ℕ) a + S1x1024x64.size a ≤ S3x1024x64.size a) (h' : ∀ a, (![k, 0, 0] : Fin 3 → ℕ) a + S1x1x1024.size a ≤ S3x1x1024.size a) : Level F :=
  ⟨View.readAt (Elt F) arg8.view (Rect.unit (s := S3x1024x64) ![k, 0, 0] S1x1024x64.size h).toLoadRect (harg8.unread x7),
   arg11.view.readCov (kernelRun0_A.sl.HS0_3 c arg8 harg8 x7) (Rect.unit (s := S3x1x1024) ![k, 0, 0] S1x1x1024.size h').toLoadRect,
   arg12.view.readCov (kernelRun0_A.sl.HS1_3 c arg8 harg8 x7) (Rect.unit (s := S3x1024x64) ![k, 0, 0] S1x1024x64.size h).toLoadRect,
   arg13.view.readCov (kernelRun0_A.sl.HS2_3 c arg8 harg8 x7) (Rect.unit (s := S3x1024x64) ![k, 0, 0] S1x1024x64.size h).toLoadRect⟩

set_option maxHeartbeats 4000000 in
/-- The stores of the indices at a later point, chunk by chunk. -/
theorem ids_pieces_B  (c : Dev nD) (i : grid0.Coords) (arg1 : Memref sig .tc .vmem S2048x768 .f32) (harg1 : arg1.IsWhole) (arg2 : Memref sig .tc .vmem S768x512 .f32) (harg2 : arg2.IsWhole) (arg3 : Memref sig .tc .vmem S1x512 .f32) (harg3 : arg3.IsWhole) (arg4 : Memref sig .tc .vmem S512x256 .f32) (harg4 : arg4.IsWhole) (arg5 : Memref sig .tc .vmem S1x256 .f32) (harg5 : arg5.IsWhole) (arg6 : Memref sig .tc .vmem S256x64 .f32) (harg6 : arg6.IsWhole) (arg7 : Memref sig .tc .vmem S1x64 .f32) (harg7 : arg7.IsWhole) (arg8 : Memref sig .tc .vmem S3x1024x64 .f32) (harg8 : arg8.IsWhole) (arg9 : Memref sig .tc .vmem S2048x3 .i32) (harg9 : arg9.IsWhole) (arg10 : Memref sig .tc .vmem S2048x64 .f32) (harg10 : arg10.IsWhole) (arg11 : Memref sig .tc .vmem S3x1x1024 .f32) (harg11 : arg11.IsWhole) (arg12 : Memref sig .tc .vmem S3x1024x64 .bf16) (harg12 : arg12.IsWhole) (arg13 : Memref sig .tc .vmem S3x1024x64 .bf16) (harg13 : arg13.IsWhole) (hc0 : ¬cond0_0 i)
    (x0 : Vec F S2048x768 .f32) (x1 : Vec F S768x512 .f32) (x2 : Vec F S1x512 .f32) (x3 : Vec F S512x256 .f32) (x4 : Vec F S1x256 .f32) (x5 : Vec F S256x64 .f32) (x6 : Vec F S1x64 .f32) (x7 : Vec F S3x1024x64 .f32) (xs0 : Vec F S3x1x1024 .f32) (xs1 : Vec F S3x1024x64 .bf16) (xs2 : Vec F S3x1024x64 .bf16)  :
    (kernelRun0_B c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 xs0 xs1 xs2).1 =
      [⟨Rect.unit ![1792, 0] ![256, 3] inb_S2048x3_S256x3_1792_0, ids (latentAt arg1 harg1 arg2 harg2 arg3 harg3 arg4 harg4 arg5 harg5 arg6 harg6 arg7 harg7 x0 x1 x2 x3 x4 x5 x6 1792 inb_S2048x768_S256x768_1792_0)
          (levelB arg8 harg8 arg11 harg11 arg12 harg12 arg13 harg13 x7 xs0 xs1 xs2 0 inb_S3x1024x64_S1x1024x64_0_0_0 inb_S3x1x1024_S1x1x1024_0_0_0) (levelB arg8 harg8 arg11 harg11 arg12 harg12 arg13 harg13 x7 xs0 xs1 xs2 1 inb_S3x1024x64_S1x1024x64_1_0_0 inb_S3x1x1024_S1x1x1024_1_0_0) (levelB arg8 harg8 arg11 harg11 arg12 harg12 arg13 harg13 x7 xs0 xs1 xs2 2 inb_S3x1024x64_S1x1024x64_2_0_0 inb_S3x1x1024_S1x1x1024_2_0_0)⟩,
       ⟨Rect.unit ![1536, 0] ![256, 3] inb_S2048x3_S256x3_1536_0, ids (latentAt arg1 harg1 arg2 harg2 arg3 harg3 arg4 harg4 arg5 harg5 arg6 harg6 arg7 harg7 x0 x1 x2 x3 x4 x5 x6 1536 inb_S2048x768_S256x768_1536_0)
          (levelB arg8 harg8 arg11 harg11 arg12 harg12 arg13 harg13 x7 xs0 xs1 xs2 0 inb_S3x1024x64_S1x1024x64_0_0_0 inb_S3x1x1024_S1x1x1024_0_0_0) (levelB arg8 harg8 arg11 harg11 arg12 harg12 arg13 harg13 x7 xs0 xs1 xs2 1 inb_S3x1024x64_S1x1024x64_1_0_0 inb_S3x1x1024_S1x1x1024_1_0_0) (levelB arg8 harg8 arg11 harg11 arg12 harg12 arg13 harg13 x7 xs0 xs1 xs2 2 inb_S3x1024x64_S1x1024x64_2_0_0 inb_S3x1x1024_S1x1x1024_2_0_0)⟩,
       ⟨Rect.unit ![1280, 0] ![256, 3] inb_S2048x3_S256x3_1280_0, ids (latentAt arg1 harg1 arg2 harg2 arg3 harg3 arg4 harg4 arg5 harg5 arg6 harg6 arg7 harg7 x0 x1 x2 x3 x4 x5 x6 1280 inb_S2048x768_S256x768_1280_0)
          (levelB arg8 harg8 arg11 harg11 arg12 harg12 arg13 harg13 x7 xs0 xs1 xs2 0 inb_S3x1024x64_S1x1024x64_0_0_0 inb_S3x1x1024_S1x1x1024_0_0_0) (levelB arg8 harg8 arg11 harg11 arg12 harg12 arg13 harg13 x7 xs0 xs1 xs2 1 inb_S3x1024x64_S1x1024x64_1_0_0 inb_S3x1x1024_S1x1x1024_1_0_0) (levelB arg8 harg8 arg11 harg11 arg12 harg12 arg13 harg13 x7 xs0 xs1 xs2 2 inb_S3x1024x64_S1x1024x64_2_0_0 inb_S3x1x1024_S1x1x1024_2_0_0)⟩,
       ⟨Rect.unit ![1024, 0] ![256, 3] inb_S2048x3_S256x3_1024_0, ids (latentAt arg1 harg1 arg2 harg2 arg3 harg3 arg4 harg4 arg5 harg5 arg6 harg6 arg7 harg7 x0 x1 x2 x3 x4 x5 x6 1024 inb_S2048x768_S256x768_1024_0)
          (levelB arg8 harg8 arg11 harg11 arg12 harg12 arg13 harg13 x7 xs0 xs1 xs2 0 inb_S3x1024x64_S1x1024x64_0_0_0 inb_S3x1x1024_S1x1x1024_0_0_0) (levelB arg8 harg8 arg11 harg11 arg12 harg12 arg13 harg13 x7 xs0 xs1 xs2 1 inb_S3x1024x64_S1x1024x64_1_0_0 inb_S3x1x1024_S1x1x1024_1_0_0) (levelB arg8 harg8 arg11 harg11 arg12 harg12 arg13 harg13 x7 xs0 xs1 xs2 2 inb_S3x1024x64_S1x1024x64_2_0_0 inb_S3x1x1024_S1x1x1024_2_0_0)⟩,
       ⟨Rect.unit ![768, 0] ![256, 3] inb_S2048x3_S256x3_768_0, ids (latentAt arg1 harg1 arg2 harg2 arg3 harg3 arg4 harg4 arg5 harg5 arg6 harg6 arg7 harg7 x0 x1 x2 x3 x4 x5 x6 768 inb_S2048x768_S256x768_768_0)
          (levelB arg8 harg8 arg11 harg11 arg12 harg12 arg13 harg13 x7 xs0 xs1 xs2 0 inb_S3x1024x64_S1x1024x64_0_0_0 inb_S3x1x1024_S1x1x1024_0_0_0) (levelB arg8 harg8 arg11 harg11 arg12 harg12 arg13 harg13 x7 xs0 xs1 xs2 1 inb_S3x1024x64_S1x1024x64_1_0_0 inb_S3x1x1024_S1x1x1024_1_0_0) (levelB arg8 harg8 arg11 harg11 arg12 harg12 arg13 harg13 x7 xs0 xs1 xs2 2 inb_S3x1024x64_S1x1024x64_2_0_0 inb_S3x1x1024_S1x1x1024_2_0_0)⟩,
       ⟨Rect.unit ![512, 0] ![256, 3] inb_S2048x3_S256x3_512_0, ids (latentAt arg1 harg1 arg2 harg2 arg3 harg3 arg4 harg4 arg5 harg5 arg6 harg6 arg7 harg7 x0 x1 x2 x3 x4 x5 x6 512 inb_S2048x768_S256x768_512_0)
          (levelB arg8 harg8 arg11 harg11 arg12 harg12 arg13 harg13 x7 xs0 xs1 xs2 0 inb_S3x1024x64_S1x1024x64_0_0_0 inb_S3x1x1024_S1x1x1024_0_0_0) (levelB arg8 harg8 arg11 harg11 arg12 harg12 arg13 harg13 x7 xs0 xs1 xs2 1 inb_S3x1024x64_S1x1024x64_1_0_0 inb_S3x1x1024_S1x1x1024_1_0_0) (levelB arg8 harg8 arg11 harg11 arg12 harg12 arg13 harg13 x7 xs0 xs1 xs2 2 inb_S3x1024x64_S1x1024x64_2_0_0 inb_S3x1x1024_S1x1x1024_2_0_0)⟩,
       ⟨Rect.unit ![256, 0] ![256, 3] inb_S2048x3_S256x3_256_0, ids (latentAt arg1 harg1 arg2 harg2 arg3 harg3 arg4 harg4 arg5 harg5 arg6 harg6 arg7 harg7 x0 x1 x2 x3 x4 x5 x6 256 inb_S2048x768_S256x768_256_0)
          (levelB arg8 harg8 arg11 harg11 arg12 harg12 arg13 harg13 x7 xs0 xs1 xs2 0 inb_S3x1024x64_S1x1024x64_0_0_0 inb_S3x1x1024_S1x1x1024_0_0_0) (levelB arg8 harg8 arg11 harg11 arg12 harg12 arg13 harg13 x7 xs0 xs1 xs2 1 inb_S3x1024x64_S1x1024x64_1_0_0 inb_S3x1x1024_S1x1x1024_1_0_0) (levelB arg8 harg8 arg11 harg11 arg12 harg12 arg13 harg13 x7 xs0 xs1 xs2 2 inb_S3x1024x64_S1x1024x64_2_0_0 inb_S3x1x1024_S1x1x1024_2_0_0)⟩,
       ⟨Rect.unit ![0, 0] ![256, 3] inb_S2048x3_S256x3_0_0, ids (latentAt arg1 harg1 arg2 harg2 arg3 harg3 arg4 harg4 arg5 harg5 arg6 harg6 arg7 harg7 x0 x1 x2 x3 x4 x5 x6 0 inb_S2048x768_S256x768_0_0)
          (levelB arg8 harg8 arg11 harg11 arg12 harg12 arg13 harg13 x7 xs0 xs1 xs2 0 inb_S3x1024x64_S1x1024x64_0_0_0 inb_S3x1x1024_S1x1x1024_0_0_0) (levelB arg8 harg8 arg11 harg11 arg12 harg12 arg13 harg13 x7 xs0 xs1 xs2 1 inb_S3x1024x64_S1x1024x64_1_0_0 inb_S3x1x1024_S1x1x1024_1_0_0) (levelB arg8 harg8 arg11 harg11 arg12 harg12 arg13 harg13 x7 xs0 xs1 xs2 2 inb_S3x1024x64_S1x1024x64_2_0_0 inb_S3x1x1024_S1x1x1024_2_0_0)⟩] := by
  rfl

set_option maxHeartbeats 4000000 in
/-- The stores of the sums at a later point, chunk by chunk. -/
theorem quant_pieces_B  (c : Dev nD) (i : grid0.Coords) (arg1 : Memref sig .tc .vmem S2048x768 .f32) (harg1 : arg1.IsWhole) (arg2 : Memref sig .tc .vmem S768x512 .f32) (harg2 : arg2.IsWhole) (arg3 : Memref sig .tc .vmem S1x512 .f32) (harg3 : arg3.IsWhole) (arg4 : Memref sig .tc .vmem S512x256 .f32) (harg4 : arg4.IsWhole) (arg5 : Memref sig .tc .vmem S1x256 .f32) (harg5 : arg5.IsWhole) (arg6 : Memref sig .tc .vmem S256x64 .f32) (harg6 : arg6.IsWhole) (arg7 : Memref sig .tc .vmem S1x64 .f32) (harg7 : arg7.IsWhole) (arg8 : Memref sig .tc .vmem S3x1024x64 .f32) (harg8 : arg8.IsWhole) (arg9 : Memref sig .tc .vmem S2048x3 .i32) (harg9 : arg9.IsWhole) (arg10 : Memref sig .tc .vmem S2048x64 .f32) (harg10 : arg10.IsWhole) (arg11 : Memref sig .tc .vmem S3x1x1024 .f32) (harg11 : arg11.IsWhole) (arg12 : Memref sig .tc .vmem S3x1024x64 .bf16) (harg12 : arg12.IsWhole) (arg13 : Memref sig .tc .vmem S3x1024x64 .bf16) (harg13 : arg13.IsWhole) (hc0 : ¬cond0_0 i)
    (x0 : Vec F S2048x768 .f32) (x1 : Vec F S768x512 .f32) (x2 : Vec F S1x512 .f32) (x3 : Vec F S512x256 .f32) (x4 : Vec F S1x256 .f32) (x5 : Vec F S256x64 .f32) (x6 : Vec F S1x64 .f32) (x7 : Vec F S3x1024x64 .f32) (xs0 : Vec F S3x1x1024 .f32) (xs1 : Vec F S3x1024x64 .bf16) (xs2 : Vec F S3x1024x64 .bf16)  :
    (kernelRun0_B c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 xs0 xs1 xs2).2.1 =
      [⟨Rect.unit ![1792, 0] ![256, 64] inb_S2048x64_S256x64_1792_0, quant (latentAt arg1 harg1 arg2 harg2 arg3 harg3 arg4 harg4 arg5 harg5 arg6 harg6 arg7 harg7 x0 x1 x2 x3 x4 x5 x6 1792 inb_S2048x768_S256x768_1792_0)
          (levelB arg8 harg8 arg11 harg11 arg12 harg12 arg13 harg13 x7 xs0 xs1 xs2 0 inb_S3x1024x64_S1x1024x64_0_0_0 inb_S3x1x1024_S1x1x1024_0_0_0) (levelB arg8 harg8 arg11 harg11 arg12 harg12 arg13 harg13 x7 xs0 xs1 xs2 1 inb_S3x1024x64_S1x1024x64_1_0_0 inb_S3x1x1024_S1x1x1024_1_0_0) (levelB arg8 harg8 arg11 harg11 arg12 harg12 arg13 harg13 x7 xs0 xs1 xs2 2 inb_S3x1024x64_S1x1024x64_2_0_0 inb_S3x1x1024_S1x1x1024_2_0_0)⟩,
       ⟨Rect.unit ![1536, 0] ![256, 64] inb_S2048x64_S256x64_1536_0, quant (latentAt arg1 harg1 arg2 harg2 arg3 harg3 arg4 harg4 arg5 harg5 arg6 harg6 arg7 harg7 x0 x1 x2 x3 x4 x5 x6 1536 inb_S2048x768_S256x768_1536_0)
          (levelB arg8 harg8 arg11 harg11 arg12 harg12 arg13 harg13 x7 xs0 xs1 xs2 0 inb_S3x1024x64_S1x1024x64_0_0_0 inb_S3x1x1024_S1x1x1024_0_0_0) (levelB arg8 harg8 arg11 harg11 arg12 harg12 arg13 harg13 x7 xs0 xs1 xs2 1 inb_S3x1024x64_S1x1024x64_1_0_0 inb_S3x1x1024_S1x1x1024_1_0_0) (levelB arg8 harg8 arg11 harg11 arg12 harg12 arg13 harg13 x7 xs0 xs1 xs2 2 inb_S3x1024x64_S1x1024x64_2_0_0 inb_S3x1x1024_S1x1x1024_2_0_0)⟩,
       ⟨Rect.unit ![1280, 0] ![256, 64] inb_S2048x64_S256x64_1280_0, quant (latentAt arg1 harg1 arg2 harg2 arg3 harg3 arg4 harg4 arg5 harg5 arg6 harg6 arg7 harg7 x0 x1 x2 x3 x4 x5 x6 1280 inb_S2048x768_S256x768_1280_0)
          (levelB arg8 harg8 arg11 harg11 arg12 harg12 arg13 harg13 x7 xs0 xs1 xs2 0 inb_S3x1024x64_S1x1024x64_0_0_0 inb_S3x1x1024_S1x1x1024_0_0_0) (levelB arg8 harg8 arg11 harg11 arg12 harg12 arg13 harg13 x7 xs0 xs1 xs2 1 inb_S3x1024x64_S1x1024x64_1_0_0 inb_S3x1x1024_S1x1x1024_1_0_0) (levelB arg8 harg8 arg11 harg11 arg12 harg12 arg13 harg13 x7 xs0 xs1 xs2 2 inb_S3x1024x64_S1x1024x64_2_0_0 inb_S3x1x1024_S1x1x1024_2_0_0)⟩,
       ⟨Rect.unit ![1024, 0] ![256, 64] inb_S2048x64_S256x64_1024_0, quant (latentAt arg1 harg1 arg2 harg2 arg3 harg3 arg4 harg4 arg5 harg5 arg6 harg6 arg7 harg7 x0 x1 x2 x3 x4 x5 x6 1024 inb_S2048x768_S256x768_1024_0)
          (levelB arg8 harg8 arg11 harg11 arg12 harg12 arg13 harg13 x7 xs0 xs1 xs2 0 inb_S3x1024x64_S1x1024x64_0_0_0 inb_S3x1x1024_S1x1x1024_0_0_0) (levelB arg8 harg8 arg11 harg11 arg12 harg12 arg13 harg13 x7 xs0 xs1 xs2 1 inb_S3x1024x64_S1x1024x64_1_0_0 inb_S3x1x1024_S1x1x1024_1_0_0) (levelB arg8 harg8 arg11 harg11 arg12 harg12 arg13 harg13 x7 xs0 xs1 xs2 2 inb_S3x1024x64_S1x1024x64_2_0_0 inb_S3x1x1024_S1x1x1024_2_0_0)⟩,
       ⟨Rect.unit ![768, 0] ![256, 64] inb_S2048x64_S256x64_768_0, quant (latentAt arg1 harg1 arg2 harg2 arg3 harg3 arg4 harg4 arg5 harg5 arg6 harg6 arg7 harg7 x0 x1 x2 x3 x4 x5 x6 768 inb_S2048x768_S256x768_768_0)
          (levelB arg8 harg8 arg11 harg11 arg12 harg12 arg13 harg13 x7 xs0 xs1 xs2 0 inb_S3x1024x64_S1x1024x64_0_0_0 inb_S3x1x1024_S1x1x1024_0_0_0) (levelB arg8 harg8 arg11 harg11 arg12 harg12 arg13 harg13 x7 xs0 xs1 xs2 1 inb_S3x1024x64_S1x1024x64_1_0_0 inb_S3x1x1024_S1x1x1024_1_0_0) (levelB arg8 harg8 arg11 harg11 arg12 harg12 arg13 harg13 x7 xs0 xs1 xs2 2 inb_S3x1024x64_S1x1024x64_2_0_0 inb_S3x1x1024_S1x1x1024_2_0_0)⟩,
       ⟨Rect.unit ![512, 0] ![256, 64] inb_S2048x64_S256x64_512_0, quant (latentAt arg1 harg1 arg2 harg2 arg3 harg3 arg4 harg4 arg5 harg5 arg6 harg6 arg7 harg7 x0 x1 x2 x3 x4 x5 x6 512 inb_S2048x768_S256x768_512_0)
          (levelB arg8 harg8 arg11 harg11 arg12 harg12 arg13 harg13 x7 xs0 xs1 xs2 0 inb_S3x1024x64_S1x1024x64_0_0_0 inb_S3x1x1024_S1x1x1024_0_0_0) (levelB arg8 harg8 arg11 harg11 arg12 harg12 arg13 harg13 x7 xs0 xs1 xs2 1 inb_S3x1024x64_S1x1024x64_1_0_0 inb_S3x1x1024_S1x1x1024_1_0_0) (levelB arg8 harg8 arg11 harg11 arg12 harg12 arg13 harg13 x7 xs0 xs1 xs2 2 inb_S3x1024x64_S1x1024x64_2_0_0 inb_S3x1x1024_S1x1x1024_2_0_0)⟩,
       ⟨Rect.unit ![256, 0] ![256, 64] inb_S2048x64_S256x64_256_0, quant (latentAt arg1 harg1 arg2 harg2 arg3 harg3 arg4 harg4 arg5 harg5 arg6 harg6 arg7 harg7 x0 x1 x2 x3 x4 x5 x6 256 inb_S2048x768_S256x768_256_0)
          (levelB arg8 harg8 arg11 harg11 arg12 harg12 arg13 harg13 x7 xs0 xs1 xs2 0 inb_S3x1024x64_S1x1024x64_0_0_0 inb_S3x1x1024_S1x1x1024_0_0_0) (levelB arg8 harg8 arg11 harg11 arg12 harg12 arg13 harg13 x7 xs0 xs1 xs2 1 inb_S3x1024x64_S1x1024x64_1_0_0 inb_S3x1x1024_S1x1x1024_1_0_0) (levelB arg8 harg8 arg11 harg11 arg12 harg12 arg13 harg13 x7 xs0 xs1 xs2 2 inb_S3x1024x64_S1x1024x64_2_0_0 inb_S3x1x1024_S1x1x1024_2_0_0)⟩,
       ⟨Rect.unit ![0, 0] ![256, 64] inb_S2048x64_S256x64_0_0, quant (latentAt arg1 harg1 arg2 harg2 arg3 harg3 arg4 harg4 arg5 harg5 arg6 harg6 arg7 harg7 x0 x1 x2 x3 x4 x5 x6 0 inb_S2048x768_S256x768_0_0)
          (levelB arg8 harg8 arg11 harg11 arg12 harg12 arg13 harg13 x7 xs0 xs1 xs2 0 inb_S3x1024x64_S1x1024x64_0_0_0 inb_S3x1x1024_S1x1x1024_0_0_0) (levelB arg8 harg8 arg11 harg11 arg12 harg12 arg13 harg13 x7 xs0 xs1 xs2 1 inb_S3x1024x64_S1x1024x64_1_0_0 inb_S3x1x1024_S1x1x1024_1_0_0) (levelB arg8 harg8 arg11 harg11 arg12 harg12 arg13 harg13 x7 xs0 xs1 xs2 2 inb_S3x1024x64_S1x1024x64_2_0_0 inb_S3x1x1024_S1x1x1024_2_0_0)⟩] := by
  rfl

set_option maxHeartbeats 4000000 in
/-- The stores of the indices at the first point, chunk by chunk. -/
theorem ids_pieces_A  (c : Dev nD) (i : grid0.Coords) (arg1 : Memref sig .tc .vmem S2048x768 .f32) (harg1 : arg1.IsWhole) (arg2 : Memref sig .tc .vmem S768x512 .f32) (harg2 : arg2.IsWhole) (arg3 : Memref sig .tc .vmem S1x512 .f32) (harg3 : arg3.IsWhole) (arg4 : Memref sig .tc .vmem S512x256 .f32) (harg4 : arg4.IsWhole) (arg5 : Memref sig .tc .vmem S1x256 .f32) (harg5 : arg5.IsWhole) (arg6 : Memref sig .tc .vmem S256x64 .f32) (harg6 : arg6.IsWhole) (arg7 : Memref sig .tc .vmem S1x64 .f32) (harg7 : arg7.IsWhole) (arg8 : Memref sig .tc .vmem S3x1024x64 .f32) (harg8 : arg8.IsWhole) (arg9 : Memref sig .tc .vmem S2048x3 .i32) (harg9 : arg9.IsWhole) (arg10 : Memref sig .tc .vmem S2048x64 .f32) (harg10 : arg10.IsWhole) (arg11 : Memref sig .tc .vmem S3x1x1024 .f32) (harg11 : arg11.IsWhole) (arg12 : Memref sig .tc .vmem S3x1024x64 .bf16) (harg12 : arg12.IsWhole) (arg13 : Memref sig .tc .vmem S3x1024x64 .bf16) (harg13 : arg13.IsWhole) (hc0 : cond0_0 i)
    (x0 : Vec F S2048x768 .f32) (x1 : Vec F S768x512 .f32) (x2 : Vec F S1x512 .f32) (x3 : Vec F S512x256 .f32) (x4 : Vec F S1x256 .f32) (x5 : Vec F S256x64 .f32) (x6 : Vec F S1x64 .f32) (x7 : Vec F S3x1024x64 .f32)  :
    (kernelRun0_A c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7).1 =
      [⟨Rect.unit ![1792, 0] ![256, 3] inb_S2048x3_S256x3_1792_0, ids (latentAt arg1 harg1 arg2 harg2 arg3 harg3 arg4 harg4 arg5 harg5 arg6 harg6 arg7 harg7 x0 x1 x2 x3 x4 x5 x6 1792 inb_S2048x768_S256x768_1792_0)
          (levelA c arg8 harg8 arg11 arg12 arg13 x7 0 inb_S3x1024x64_S1x1024x64_0_0_0 inb_S3x1x1024_S1x1x1024_0_0_0) (levelA c arg8 harg8 arg11 arg12 arg13 x7 1 inb_S3x1024x64_S1x1024x64_1_0_0 inb_S3x1x1024_S1x1x1024_1_0_0) (levelA c arg8 harg8 arg11 arg12 arg13 x7 2 inb_S3x1024x64_S1x1024x64_2_0_0 inb_S3x1x1024_S1x1x1024_2_0_0)⟩,
       ⟨Rect.unit ![1536, 0] ![256, 3] inb_S2048x3_S256x3_1536_0, ids (latentAt arg1 harg1 arg2 harg2 arg3 harg3 arg4 harg4 arg5 harg5 arg6 harg6 arg7 harg7 x0 x1 x2 x3 x4 x5 x6 1536 inb_S2048x768_S256x768_1536_0)
          (levelA c arg8 harg8 arg11 arg12 arg13 x7 0 inb_S3x1024x64_S1x1024x64_0_0_0 inb_S3x1x1024_S1x1x1024_0_0_0) (levelA c arg8 harg8 arg11 arg12 arg13 x7 1 inb_S3x1024x64_S1x1024x64_1_0_0 inb_S3x1x1024_S1x1x1024_1_0_0) (levelA c arg8 harg8 arg11 arg12 arg13 x7 2 inb_S3x1024x64_S1x1024x64_2_0_0 inb_S3x1x1024_S1x1x1024_2_0_0)⟩,
       ⟨Rect.unit ![1280, 0] ![256, 3] inb_S2048x3_S256x3_1280_0, ids (latentAt arg1 harg1 arg2 harg2 arg3 harg3 arg4 harg4 arg5 harg5 arg6 harg6 arg7 harg7 x0 x1 x2 x3 x4 x5 x6 1280 inb_S2048x768_S256x768_1280_0)
          (levelA c arg8 harg8 arg11 arg12 arg13 x7 0 inb_S3x1024x64_S1x1024x64_0_0_0 inb_S3x1x1024_S1x1x1024_0_0_0) (levelA c arg8 harg8 arg11 arg12 arg13 x7 1 inb_S3x1024x64_S1x1024x64_1_0_0 inb_S3x1x1024_S1x1x1024_1_0_0) (levelA c arg8 harg8 arg11 arg12 arg13 x7 2 inb_S3x1024x64_S1x1024x64_2_0_0 inb_S3x1x1024_S1x1x1024_2_0_0)⟩,
       ⟨Rect.unit ![1024, 0] ![256, 3] inb_S2048x3_S256x3_1024_0, ids (latentAt arg1 harg1 arg2 harg2 arg3 harg3 arg4 harg4 arg5 harg5 arg6 harg6 arg7 harg7 x0 x1 x2 x3 x4 x5 x6 1024 inb_S2048x768_S256x768_1024_0)
          (levelA c arg8 harg8 arg11 arg12 arg13 x7 0 inb_S3x1024x64_S1x1024x64_0_0_0 inb_S3x1x1024_S1x1x1024_0_0_0) (levelA c arg8 harg8 arg11 arg12 arg13 x7 1 inb_S3x1024x64_S1x1024x64_1_0_0 inb_S3x1x1024_S1x1x1024_1_0_0) (levelA c arg8 harg8 arg11 arg12 arg13 x7 2 inb_S3x1024x64_S1x1024x64_2_0_0 inb_S3x1x1024_S1x1x1024_2_0_0)⟩,
       ⟨Rect.unit ![768, 0] ![256, 3] inb_S2048x3_S256x3_768_0, ids (latentAt arg1 harg1 arg2 harg2 arg3 harg3 arg4 harg4 arg5 harg5 arg6 harg6 arg7 harg7 x0 x1 x2 x3 x4 x5 x6 768 inb_S2048x768_S256x768_768_0)
          (levelA c arg8 harg8 arg11 arg12 arg13 x7 0 inb_S3x1024x64_S1x1024x64_0_0_0 inb_S3x1x1024_S1x1x1024_0_0_0) (levelA c arg8 harg8 arg11 arg12 arg13 x7 1 inb_S3x1024x64_S1x1024x64_1_0_0 inb_S3x1x1024_S1x1x1024_1_0_0) (levelA c arg8 harg8 arg11 arg12 arg13 x7 2 inb_S3x1024x64_S1x1024x64_2_0_0 inb_S3x1x1024_S1x1x1024_2_0_0)⟩,
       ⟨Rect.unit ![512, 0] ![256, 3] inb_S2048x3_S256x3_512_0, ids (latentAt arg1 harg1 arg2 harg2 arg3 harg3 arg4 harg4 arg5 harg5 arg6 harg6 arg7 harg7 x0 x1 x2 x3 x4 x5 x6 512 inb_S2048x768_S256x768_512_0)
          (levelA c arg8 harg8 arg11 arg12 arg13 x7 0 inb_S3x1024x64_S1x1024x64_0_0_0 inb_S3x1x1024_S1x1x1024_0_0_0) (levelA c arg8 harg8 arg11 arg12 arg13 x7 1 inb_S3x1024x64_S1x1024x64_1_0_0 inb_S3x1x1024_S1x1x1024_1_0_0) (levelA c arg8 harg8 arg11 arg12 arg13 x7 2 inb_S3x1024x64_S1x1024x64_2_0_0 inb_S3x1x1024_S1x1x1024_2_0_0)⟩,
       ⟨Rect.unit ![256, 0] ![256, 3] inb_S2048x3_S256x3_256_0, ids (latentAt arg1 harg1 arg2 harg2 arg3 harg3 arg4 harg4 arg5 harg5 arg6 harg6 arg7 harg7 x0 x1 x2 x3 x4 x5 x6 256 inb_S2048x768_S256x768_256_0)
          (levelA c arg8 harg8 arg11 arg12 arg13 x7 0 inb_S3x1024x64_S1x1024x64_0_0_0 inb_S3x1x1024_S1x1x1024_0_0_0) (levelA c arg8 harg8 arg11 arg12 arg13 x7 1 inb_S3x1024x64_S1x1024x64_1_0_0 inb_S3x1x1024_S1x1x1024_1_0_0) (levelA c arg8 harg8 arg11 arg12 arg13 x7 2 inb_S3x1024x64_S1x1024x64_2_0_0 inb_S3x1x1024_S1x1x1024_2_0_0)⟩,
       ⟨Rect.unit ![0, 0] ![256, 3] inb_S2048x3_S256x3_0_0, ids (latentAt arg1 harg1 arg2 harg2 arg3 harg3 arg4 harg4 arg5 harg5 arg6 harg6 arg7 harg7 x0 x1 x2 x3 x4 x5 x6 0 inb_S2048x768_S256x768_0_0)
          (levelA c arg8 harg8 arg11 arg12 arg13 x7 0 inb_S3x1024x64_S1x1024x64_0_0_0 inb_S3x1x1024_S1x1x1024_0_0_0) (levelA c arg8 harg8 arg11 arg12 arg13 x7 1 inb_S3x1024x64_S1x1024x64_1_0_0 inb_S3x1x1024_S1x1x1024_1_0_0) (levelA c arg8 harg8 arg11 arg12 arg13 x7 2 inb_S3x1024x64_S1x1024x64_2_0_0 inb_S3x1x1024_S1x1x1024_2_0_0)⟩] := by
  rfl

set_option maxHeartbeats 4000000 in
/-- The stores of the sums at the first point, chunk by chunk. -/
theorem quant_pieces_A  (c : Dev nD) (i : grid0.Coords) (arg1 : Memref sig .tc .vmem S2048x768 .f32) (harg1 : arg1.IsWhole) (arg2 : Memref sig .tc .vmem S768x512 .f32) (harg2 : arg2.IsWhole) (arg3 : Memref sig .tc .vmem S1x512 .f32) (harg3 : arg3.IsWhole) (arg4 : Memref sig .tc .vmem S512x256 .f32) (harg4 : arg4.IsWhole) (arg5 : Memref sig .tc .vmem S1x256 .f32) (harg5 : arg5.IsWhole) (arg6 : Memref sig .tc .vmem S256x64 .f32) (harg6 : arg6.IsWhole) (arg7 : Memref sig .tc .vmem S1x64 .f32) (harg7 : arg7.IsWhole) (arg8 : Memref sig .tc .vmem S3x1024x64 .f32) (harg8 : arg8.IsWhole) (arg9 : Memref sig .tc .vmem S2048x3 .i32) (harg9 : arg9.IsWhole) (arg10 : Memref sig .tc .vmem S2048x64 .f32) (harg10 : arg10.IsWhole) (arg11 : Memref sig .tc .vmem S3x1x1024 .f32) (harg11 : arg11.IsWhole) (arg12 : Memref sig .tc .vmem S3x1024x64 .bf16) (harg12 : arg12.IsWhole) (arg13 : Memref sig .tc .vmem S3x1024x64 .bf16) (harg13 : arg13.IsWhole) (hc0 : cond0_0 i)
    (x0 : Vec F S2048x768 .f32) (x1 : Vec F S768x512 .f32) (x2 : Vec F S1x512 .f32) (x3 : Vec F S512x256 .f32) (x4 : Vec F S1x256 .f32) (x5 : Vec F S256x64 .f32) (x6 : Vec F S1x64 .f32) (x7 : Vec F S3x1024x64 .f32)  :
    (kernelRun0_A c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7).2.1 =
      [⟨Rect.unit ![1792, 0] ![256, 64] inb_S2048x64_S256x64_1792_0, quant (latentAt arg1 harg1 arg2 harg2 arg3 harg3 arg4 harg4 arg5 harg5 arg6 harg6 arg7 harg7 x0 x1 x2 x3 x4 x5 x6 1792 inb_S2048x768_S256x768_1792_0)
          (levelA c arg8 harg8 arg11 arg12 arg13 x7 0 inb_S3x1024x64_S1x1024x64_0_0_0 inb_S3x1x1024_S1x1x1024_0_0_0) (levelA c arg8 harg8 arg11 arg12 arg13 x7 1 inb_S3x1024x64_S1x1024x64_1_0_0 inb_S3x1x1024_S1x1x1024_1_0_0) (levelA c arg8 harg8 arg11 arg12 arg13 x7 2 inb_S3x1024x64_S1x1024x64_2_0_0 inb_S3x1x1024_S1x1x1024_2_0_0)⟩,
       ⟨Rect.unit ![1536, 0] ![256, 64] inb_S2048x64_S256x64_1536_0, quant (latentAt arg1 harg1 arg2 harg2 arg3 harg3 arg4 harg4 arg5 harg5 arg6 harg6 arg7 harg7 x0 x1 x2 x3 x4 x5 x6 1536 inb_S2048x768_S256x768_1536_0)
          (levelA c arg8 harg8 arg11 arg12 arg13 x7 0 inb_S3x1024x64_S1x1024x64_0_0_0 inb_S3x1x1024_S1x1x1024_0_0_0) (levelA c arg8 harg8 arg11 arg12 arg13 x7 1 inb_S3x1024x64_S1x1024x64_1_0_0 inb_S3x1x1024_S1x1x1024_1_0_0) (levelA c arg8 harg8 arg11 arg12 arg13 x7 2 inb_S3x1024x64_S1x1024x64_2_0_0 inb_S3x1x1024_S1x1x1024_2_0_0)⟩,
       ⟨Rect.unit ![1280, 0] ![256, 64] inb_S2048x64_S256x64_1280_0, quant (latentAt arg1 harg1 arg2 harg2 arg3 harg3 arg4 harg4 arg5 harg5 arg6 harg6 arg7 harg7 x0 x1 x2 x3 x4 x5 x6 1280 inb_S2048x768_S256x768_1280_0)
          (levelA c arg8 harg8 arg11 arg12 arg13 x7 0 inb_S3x1024x64_S1x1024x64_0_0_0 inb_S3x1x1024_S1x1x1024_0_0_0) (levelA c arg8 harg8 arg11 arg12 arg13 x7 1 inb_S3x1024x64_S1x1024x64_1_0_0 inb_S3x1x1024_S1x1x1024_1_0_0) (levelA c arg8 harg8 arg11 arg12 arg13 x7 2 inb_S3x1024x64_S1x1024x64_2_0_0 inb_S3x1x1024_S1x1x1024_2_0_0)⟩,
       ⟨Rect.unit ![1024, 0] ![256, 64] inb_S2048x64_S256x64_1024_0, quant (latentAt arg1 harg1 arg2 harg2 arg3 harg3 arg4 harg4 arg5 harg5 arg6 harg6 arg7 harg7 x0 x1 x2 x3 x4 x5 x6 1024 inb_S2048x768_S256x768_1024_0)
          (levelA c arg8 harg8 arg11 arg12 arg13 x7 0 inb_S3x1024x64_S1x1024x64_0_0_0 inb_S3x1x1024_S1x1x1024_0_0_0) (levelA c arg8 harg8 arg11 arg12 arg13 x7 1 inb_S3x1024x64_S1x1024x64_1_0_0 inb_S3x1x1024_S1x1x1024_1_0_0) (levelA c arg8 harg8 arg11 arg12 arg13 x7 2 inb_S3x1024x64_S1x1024x64_2_0_0 inb_S3x1x1024_S1x1x1024_2_0_0)⟩,
       ⟨Rect.unit ![768, 0] ![256, 64] inb_S2048x64_S256x64_768_0, quant (latentAt arg1 harg1 arg2 harg2 arg3 harg3 arg4 harg4 arg5 harg5 arg6 harg6 arg7 harg7 x0 x1 x2 x3 x4 x5 x6 768 inb_S2048x768_S256x768_768_0)
          (levelA c arg8 harg8 arg11 arg12 arg13 x7 0 inb_S3x1024x64_S1x1024x64_0_0_0 inb_S3x1x1024_S1x1x1024_0_0_0) (levelA c arg8 harg8 arg11 arg12 arg13 x7 1 inb_S3x1024x64_S1x1024x64_1_0_0 inb_S3x1x1024_S1x1x1024_1_0_0) (levelA c arg8 harg8 arg11 arg12 arg13 x7 2 inb_S3x1024x64_S1x1024x64_2_0_0 inb_S3x1x1024_S1x1x1024_2_0_0)⟩,
       ⟨Rect.unit ![512, 0] ![256, 64] inb_S2048x64_S256x64_512_0, quant (latentAt arg1 harg1 arg2 harg2 arg3 harg3 arg4 harg4 arg5 harg5 arg6 harg6 arg7 harg7 x0 x1 x2 x3 x4 x5 x6 512 inb_S2048x768_S256x768_512_0)
          (levelA c arg8 harg8 arg11 arg12 arg13 x7 0 inb_S3x1024x64_S1x1024x64_0_0_0 inb_S3x1x1024_S1x1x1024_0_0_0) (levelA c arg8 harg8 arg11 arg12 arg13 x7 1 inb_S3x1024x64_S1x1024x64_1_0_0 inb_S3x1x1024_S1x1x1024_1_0_0) (levelA c arg8 harg8 arg11 arg12 arg13 x7 2 inb_S3x1024x64_S1x1024x64_2_0_0 inb_S3x1x1024_S1x1x1024_2_0_0)⟩,
       ⟨Rect.unit ![256, 0] ![256, 64] inb_S2048x64_S256x64_256_0, quant (latentAt arg1 harg1 arg2 harg2 arg3 harg3 arg4 harg4 arg5 harg5 arg6 harg6 arg7 harg7 x0 x1 x2 x3 x4 x5 x6 256 inb_S2048x768_S256x768_256_0)
          (levelA c arg8 harg8 arg11 arg12 arg13 x7 0 inb_S3x1024x64_S1x1024x64_0_0_0 inb_S3x1x1024_S1x1x1024_0_0_0) (levelA c arg8 harg8 arg11 arg12 arg13 x7 1 inb_S3x1024x64_S1x1024x64_1_0_0 inb_S3x1x1024_S1x1x1024_1_0_0) (levelA c arg8 harg8 arg11 arg12 arg13 x7 2 inb_S3x1024x64_S1x1024x64_2_0_0 inb_S3x1x1024_S1x1x1024_2_0_0)⟩,
       ⟨Rect.unit ![0, 0] ![256, 64] inb_S2048x64_S256x64_0_0, quant (latentAt arg1 harg1 arg2 harg2 arg3 harg3 arg4 harg4 arg5 harg5 arg6 harg6 arg7 harg7 x0 x1 x2 x3 x4 x5 x6 0 inb_S2048x768_S256x768_0_0)
          (levelA c arg8 harg8 arg11 arg12 arg13 x7 0 inb_S3x1024x64_S1x1024x64_0_0_0 inb_S3x1x1024_S1x1x1024_0_0_0) (levelA c arg8 harg8 arg11 arg12 arg13 x7 1 inb_S3x1024x64_S1x1024x64_1_0_0 inb_S3x1x1024_S1x1x1024_1_0_0) (levelA c arg8 harg8 arg11 arg12 arg13 x7 2 inb_S3x1024x64_S1x1024x64_2_0_0 inb_S3x1x1024_S1x1x1024_2_0_0)⟩] := by
  rfl

end Cert.Proof.Chunk

end
-- ==== Proof.ChunkValue.lean ====
/-
What one chunk of the kernel computes, at an index, over the real numbers: the latent rows, the nearest codebook rows,
what is left after each level, the indices and the sum.
-/
module

public import proofs.«01_k».proof.Proof.Chunk
public import proofs.«01_k».proof.Proof.Words
public import Idealize.ShloMosaic.Lib.Pointwise
public import Idealize.ShloMosaic.Lib.ValueIdx

@[expose] public section
set_option maxRecDepth 16384
noncomputable section

namespace Cert.Proof.Chunk

open Cert.KernelIdeal Cert.KernelIdeal.Gen
open Idealize.ShloMosaic Idealize.ShloMosaic.TcCoe
open Cert.Proof.Rows (IsReal near rest code total first)

/-- The row `i` of a tile. -/
def row {n k : ℕ} (r : (⟨2, ![n, k]⟩ : Shape).Idx → EReal) (i : Fin n) (l : Fin k) : EReal := r (ix2 i l)

/-- The rows of a one-table stack. -/
def table {n k : ℕ} (c : (⟨3, ![1, n, k]⟩ : Shape).Idx → EReal) (j : Fin n) (l : Fin k) : EReal := c (ix3 0 j l)

/-- A level's tables agree: real entries, squared lengths, and two halves that are the codebook and what it lacks. -/
structure Level.Good (L : Level Ideal) : Prop where
  real : ∀ j k, IsReal (table L.cb j k)
  cn : ∀ j, L.cn (ix3 0 0 j) = Rows.lenSq (table L.cb j)
  hi : ∀ j k, L.hi (ix3 0 j k) = table L.cb j k
  lo : ∀ j k, L.lo (ix3 0 j k) = table L.cb j k - table L.cb j k

theorem latent_apply (x : Vec Ideal S256x768 .f32) (w1 : Vec Ideal S768x512 .f32) (b1 : Vec Ideal S1x512 .f32) (w2 : Vec Ideal S512x256 .f32)
    (b2 : Vec Ideal S1x256 .f32) (w3 : Vec Ideal S256x64 .f32) (b3 : Vec Ideal S1x64 .f32) (i : Fin 256) :
    row (latent x w1 b1 w2 b2 w3 b3) i
      = Rows.latent (row x i) (row w1) (row b1 0) (row w2) (row b2 0) (row w3) (row b3 0) := by
  funext k
  show latent x w1 b1 w2 b2 w3 b3 (ix2 i k) = _
  pointwise [Chunk.latent, k0_pay28, k0_pay27]
  rfl

theorem Level.dist_apply (L : Level Ideal) (hL : L.Good) (r : FVec Ideal S256x64 .f32) (hr : ∀ i k, IsReal (row r i k)) (i : Fin 256) (j : Fin 1024) :
    L.dist r (ix2 i j) = Rows.dist (row r i) (table L.cb j) := by
  rw [← Rows.dist_scaled _ _ (hr i) (hL.real j), ← hL.cn j]
  show Chunk.dist r L.cb L.cn (ix2 i j) = _
  pointwise [Chunk.dist, k0_pay39]
  rw [Words.ofBits_neg_two]
  rfl

theorem Level.nearest_apply (L : Level Ideal) (hL : L.Good) (r : FVec Ideal S256x64 .f32) (hr : ∀ i k, IsReal (row r i k)) (i : Fin 256) :
    L.nearest r (ix2 i 0) = BitVec.ofNat 32 (near (row r i) (table L.cb)).val := by
  have e : ∀ d : FVec Ideal S256x1024 .f32, Chunk.nearest d (ix2 i 0) = BitVec.ofNat 32 (first fun j => d (ix2 i j)).val := fun d => by
    pointwise [Chunk.nearest, Chunk.lanes, k0_pay37]
    rw [Words.ofBits_inf, Rows.fold_min (fun j => d (ix2 i j))]
    exact Words.fold_minsi _
  rw [Level.nearest, e, near]
  exact congrArg (fun d => BitVec.ofNat 32 (first d).val) (funext fun j => L.dist_apply hL r hr i j)

/-- The 0/1 matrix: 1 exactly at each row's index. -/
theorem onehot_apply (d : FVec Ideal S256x1024 .f32) (n : Fin 1024) (i : Fin 256) (h : Chunk.nearest d (ix2 i 0) = BitVec.ofNat 32 n.val) (j : Fin 1024) :
    k0_pay38 lanes d (ix2 i j) = if j = n then 1 else 0 := by
  have e : k0_pay38 lanes d (ix2 i j)
      = FloatOps.sitofp (F := Ideal) .bf16 (BitVec.setWidth 32 (IntOp.cmpi .eq (BitVec.ofNat 32 j.val) (Chunk.nearest d (ix2 i 0)))) := by
    pointwise [Chunk.lanes, k0_pay38]
    rfl
  rw [e, h]
  have hb : IntOp.cmpi .eq (BitVec.ofNat 32 j.val) (BitVec.ofNat 32 n.val) = if j = n then 1#1 else 0#1 := by
    have hj := j.isLt
    have hn := n.isLt
    have : (BitVec.ofNat 32 j.val = BitVec.ofNat 32 n.val) ↔ j = n := by
      constructor
      · intro hq
        have := congrArg BitVec.toNat hq
        rw [BitVec.toNat_ofNat, BitVec.toNat_ofNat, Nat.mod_eq_of_lt (by omega), Nat.mod_eq_of_lt (by omega)] at this
        exact Fin.ext this
      · rintro rfl; rfl
    show BitVec.ofBool (BitVec.ofNat 32 j.val == BitVec.ofNat 32 n.val) = _
    by_cases hq : j = n
    · rw [if_pos hq, hq, beq_self_eq_true]; rfl
    · rw [if_neg hq, beq_eq_false_iff_ne.mpr fun hw => hq (this.mp hw)]; rfl
  rw [hb]
  split
  · simp [FloatOps.sitofp]
  · simp [FloatOps.sitofp]

theorem Level.picked_apply (L : Level Ideal) (hL : L.Good) (r : FVec Ideal S256x64 .f32) (hr : ∀ i k, IsReal (row r i k)) (i : Fin 256) (k : Fin 64) :
    L.picked r (ix2 i k) = table L.cb (near (row r i) (table L.cb)) k := by
  have e : ∀ (p : FVec Ideal S256x1024 .bf16) (hi lo : Vec Ideal S1x1024x64 .bf16), k0_pay44 p hi lo (ix2 i k)
      = (∑ j, p (ix2 i j) * hi (ix3 0 j k)) + ∑ j, p (ix2 i j) * lo (ix3 0 j k) := fun p hi lo => by
    pointwise [k0_pay44]
  have h1 := onehot_apply (L.dist r) _ i (L.nearest_apply hL r hr i)
  rw [Level.picked, Chunk.picked, e]
  rw [Rows.sum_pick (near (row r i) (table L.cb)) _ (fun j => L.hi (ix3 0 j k)) ((h1 _).trans (if_pos rfl)) (fun j hj => (h1 j).trans (if_neg hj)),
    Rows.sum_pick (near (row r i) (table L.cb)) _ (fun j => L.lo (ix3 0 j k)) ((h1 _).trans (if_pos rfl)) (fun j hj => (h1 j).trans (if_neg hj)),
    hL.hi, hL.lo, (hL.real _ k).sub_self, add_zero]

theorem Level.left_apply (L : Level Ideal) (hL : L.Good) (r : FVec Ideal S256x64 .f32) (hr : ∀ i k, IsReal (row r i k)) (i : Fin 256) :
    row (L.left r) i = rest (row r i) (table L.cb) := by
  funext k
  show r (ix2 i k) - L.picked r (ix2 i k) = _
  rw [L.picked_apply hL r hr]
  rfl

theorem Level.left_real (L : Level Ideal) (hL : L.Good) (r : FVec Ideal S256x64 .f32) (hr : ∀ i k, IsReal (row r i k)) (i : Fin 256) (k : Fin 64) :
    IsReal (row (L.left r) i k) := by
  rw [L.left_apply hL r hr]
  exact Rows.rest_real (hr i) hL.real k

variable (L0 L1 L2 : Level Ideal) (h0 : L0.Good) (h1 : L1.Good) (h2 : L2.Good) (z : FVec Ideal S256x64 .f32) (hz : ∀ i k, IsReal (row z i k))
include h0 h1 h2 hz

/-- The chunk's indices. -/
theorem ids_apply (i : Fin 256) (l : Fin 3) :
    ids z L0 L1 L2 (ix2 i l) = BitVec.ofNat 32 (code (row z i) (table L0.cb) (table L1.cb) (table L2.cb) l).val := by
  have e : ∀ a b c : IVec S256x1 32, k0_pay199 a b c (ix2 i l)
      = if l.val < 1 then a (ix2 i 0) else if l.val - 1 < 1 then b (ix2 i 0) else c (ix2 i 0) := fun a b c => by
    have hs : ∀ q : Fin 1, q = 0 := fun q => Subsingleton.elim _ _
    pointwise [k0_pay199]
    split
    · rw [hs ⟨l.val, _⟩]
    · split
      · rw [hs ⟨l.val - 1, _⟩]
      · rw [hs ⟨l.val - 1 - 1, _⟩]
  have hl := L0.left_real h0 z hz
  have hl' := L1.left_real h1 _ hl
  rw [ids, e, L0.nearest_apply h0 z hz, L1.nearest_apply h1 _ hl, L2.nearest_apply h2 _ hl', L1.left_apply h1 _ hl, L0.left_apply h0 z hz, code]
  split
  · rfl
  · split <;> rfl

/-- The chunk's sums. -/
theorem quant_apply (i : Fin 256) (k : Fin 64) :
    quant z L0 L1 L2 (ix2 i k) = total (row z i) (table L0.cb) (table L1.cb) (table L2.cb) k := by
  have hl := L0.left_real h0 z hz
  have hl' := L1.left_real h1 _ hl
  have hzero : (k0_pay19 : FVec Ideal S256x64 .f32) (ix2 i k) = 0 := by
    pointwise [k0_pay19]
  show (((k0_pay19 : FVec Ideal S256x64 .f32) (ix2 i k) + L0.picked z (ix2 i k)) + L1.picked (L0.left z) (ix2 i k)) + L2.picked (L1.left (L0.left z)) (ix2 i k) = _
  rw [hzero, L0.picked_apply h0 z hz, L1.picked_apply h1 _ hl, L2.picked_apply h2 _ hl', L1.left_apply h1 _ hl, L0.left_apply h0 z hz]
  rfl

end Cert.Proof.Chunk

end
-- ==== Proof.Tables.lean ====
/-
What the kernel's loads read, over the extended reals: a whole parameter, the rows of a chunk, the three tables of a codebook
level; and what the scratch holds once the first point has filled it.
-/
module

public import proofs.«01_k».proof.Proof.ChunkValue
public import Idealize.ShloMosaic.Lib.WholeRead
public import Idealize.ShloMosaic.Lib.WritesUnit

@[expose] public section
set_option maxRecDepth 16384
noncomputable section

namespace Cert.Proof.Chunk

open Cert.KernelIdeal Cert.KernelIdeal.Gen
open Idealize.ShloMosaic Idealize.ShloMosaic.TcCoe
open Cert.Proof.Rows (IsReal near rest code total first)

/-- A load of whole rows `o, o + 1, …` of a matrix held whole. -/
theorem load_rows {N n k : ℕ} {e : EltTy} {Val : EltTy → Type} {arg : Memref sig .tc .vmem ⟨2, ![N, k]⟩ e} (harg : arg.IsWhole) (X : (⟨2, ![N, k]⟩ : Shape).Idx → Val e)
    (o : ℕ) (h : ∀ a, (![o, 0] : Fin 2 → ℕ) a + (![n, k] : Fin 2 → ℕ) a ≤ (⟨2, ![N, k]⟩ : Shape).size a) (i : Fin n) (j : Fin k) (hi : o + i.val < N) :
    View.readAt Val arg.view (Rect.unit (s := ⟨2, ![N, k]⟩) ![o, 0] ![n, k] h).toLoadRect (harg.unread X) (ix2 i j) = X (ix2 ⟨o + i.val, hi⟩ j) := by
  rw [harg.readAt_unread]
  congr 1
  funext a
  apply Fin.ext
  match a with
  | ⟨0, _⟩ => show o + 1 * i.val = o + i.val; omega
  | ⟨1, _⟩ => show 0 + 1 * j.val = j.val; omega

/-- The place of a table's entry in its stack. -/
theorem idx_table {A n k : ℕ} (q : Fin A) (h : ∀ a, (![q.val, 0, 0] : Fin 3 → ℕ) a + (![1, n, k] : Fin 3 → ℕ) a ≤ (⟨3, ![A, n, k]⟩ : Shape).size a)
    (y : (⟨3, ![1, n, k]⟩ : Shape).Idx) : (Rect.unit (s := ⟨3, ![A, n, k]⟩) ![q.val, 0, 0] ![1, n, k] h).toLoadRect.idx y = ix3 q (y 1) (y 2) := by
  funext a
  apply Fin.ext
  match a with
  | ⟨0, _⟩ =>
    have h0 : (y 0).val < 1 := (y 0).isLt
    show q.val + 1 * (y 0).val = q.val; omega
  | ⟨1, _⟩ => show 0 + 1 * (y 1).val = (y 1).val; omega
  | ⟨2, _⟩ => show 0 + 1 * (y 2).val = (y 2).val; omega

/-- A load of one table of a stack held whole. -/
theorem load_table {A n k : ℕ} {e : EltTy} {Val : EltTy → Type} {arg : Memref sig .tc .vmem ⟨3, ![A, n, k]⟩ e} (harg : arg.IsWhole) (X : (⟨3, ![A, n, k]⟩ : Shape).Idx → Val e)
    (q : Fin A) (h : ∀ a, (![q.val, 0, 0] : Fin 3 → ℕ) a + (![1, n, k] : Fin 3 → ℕ) a ≤ (⟨3, ![A, n, k]⟩ : Shape).size a) (y : (⟨3, ![1, n, k]⟩ : Shape).Idx) :
    View.readAt Val arg.view (Rect.unit (s := ⟨3, ![A, n, k]⟩) ![q.val, 0, 0] ![1, n, k] h).toLoadRect (harg.unread X) y = X (ix3 q (y 1) (y 2)) := by
  rw [harg.readAt_unread]
  exact congrArg X (idx_table q h y)

/-- The squared lengths of the rows of three codebooks. -/
def lens (x : Vec Ideal S3x1024x64 .f32) : Vec Ideal S3x1x1024 .f32 := fun y => Rows.lenSq fun k => x (ix3 (y 0) (y 2) k)

/-- The high halves of three codebooks: the codebooks. -/
def high (x : Vec Ideal S3x1024x64 .f32) : Vec Ideal S3x1024x64 .bf16 := fun y => x y

/-- The low halves: what the high halves lack. -/
def low (x : Vec Ideal S3x1024x64 .f32) : Vec Ideal S3x1024x64 .bf16 := fun y => (x y - x y : EReal)

/-- The four tables of one level of three codebooks. -/
def level (x : Vec Ideal S3x1024x64 .f32) (q : Fin 3) : Level Ideal where
  cb := fun y => x (ix3 q (y 1) (y 2))
  cn := fun y => lens x (ix3 q (y 1) (y 2))
  hi := fun y => high x (ix3 q (y 1) (y 2))
  lo := fun y => low x (ix3 q (y 1) (y 2))

theorem level_good (x : Vec Ideal S3x1024x64 .f32) (hx : ∀ i, IsReal (x i)) (q : Fin 3) : (level x q).Good where
  real := fun _ _ => hx _
  cn := fun _ => rfl
  hi := fun _ _ => rfl
  lo := fun _ _ => rfl

section loads

variable (c : Dev nD) (arg1 : Memref sig .tc .vmem S2048x768 .f32) (harg1 : arg1.IsWhole) (arg2 : Memref sig .tc .vmem S768x512 .f32) (harg2 : arg2.IsWhole)
  (arg3 : Memref sig .tc .vmem S1x512 .f32) (harg3 : arg3.IsWhole) (arg4 : Memref sig .tc .vmem S512x256 .f32) (harg4 : arg4.IsWhole)
  (arg5 : Memref sig .tc .vmem S1x256 .f32) (harg5 : arg5.IsWhole) (arg6 : Memref sig .tc .vmem S256x64 .f32) (harg6 : arg6.IsWhole)
  (arg7 : Memref sig .tc .vmem S1x64 .f32) (harg7 : arg7.IsWhole) (arg8 : Memref sig .tc .vmem S3x1024x64 .f32) (harg8 : arg8.IsWhole)
  (arg11 : Memref sig .tc .vmem S3x1x1024 .f32) (harg11 : arg11.IsWhole)
  (arg12 : Memref sig .tc .vmem S3x1024x64 .bf16) (harg12 : arg12.IsWhole) (arg13 : Memref sig .tc .vmem S3x1024x64 .bf16) (harg13 : arg13.IsWhole)
  (x0 : Vec Ideal S2048x768 .f32) (x1 : Vec Ideal S768x512 .f32) (x2 : Vec Ideal S1x512 .f32) (x3 : Vec Ideal S512x256 .f32) (x4 : Vec Ideal S1x256 .f32)
  (x5 : Vec Ideal S256x64 .f32) (x6 : Vec Ideal S1x64 .f32) (x7 : Vec Ideal S3x1024x64 .f32)

/-- A load of a whole matrix reads the matrix. -/
theorem load_all {n k : ℕ} {arg : Memref sig .tc .vmem ⟨2, ![n, k]⟩ .f32} (harg : arg.IsWhole) (X : Vec Ideal ⟨2, ![n, k]⟩ .f32)
    (h : ∀ a, (![0, 0] : Fin 2 → ℕ) a + (![n, k] : Fin 2 → ℕ) a ≤ (⟨2, ![n, k]⟩ : Shape).size a) (i : Fin n) :
    row (n := n) (k := k) (View.readAt (Elt Ideal) arg.view (Rect.unit (s := ⟨2, ![n, k]⟩) ![0, 0] ![n, k] h).toLoadRect (harg.unread X)) i = row (n := n) (k := k) X i := by
  funext j
  refine (load_rows harg X 0 h i j (by have := i.isLt; omega)).trans ?_
  congr 2
  exact Fin.ext (Nat.zero_add _)

/-- The latent of a chunk's row is the encoder's of the block's row. -/
theorem latentAt_row (o : ℕ) (ho : ∀ a, (![o, 0] : Fin 2 → ℕ) a + S256x768.size a ≤ S2048x768.size a) (i : Fin 256) (hi : o + i.val < 2048) :
    row (latentAt arg1 harg1 arg2 harg2 arg3 harg3 arg4 harg4 arg5 harg5 arg6 harg6 arg7 harg7 x0 x1 x2 x3 x4 x5 x6 o ho) i
      = Rows.latent (row x0 ⟨o + i.val, hi⟩) (row x1) (row x2 0) (row x3) (row x4 0) (row x5) (row x6 0) := by
  rw [latentAt, latent_apply]
  have e0 := funext fun j => load_rows (Val := Elt Ideal) harg1 x0 o ho i j hi
  have e1 := funext fun i => load_all harg2 x1 inb_S768x512_S768x512_0_0 i
  have e2 := load_all harg3 x2 inb_S1x512_S1x512_0_0 0
  have e3 := funext fun i => load_all harg4 x3 inb_S512x256_S512x256_0_0 i
  have e4 := load_all harg5 x4 inb_S1x256_S1x256_0_0 0
  have e5 := funext fun i => load_all harg6 x5 inb_S256x64_S256x64_0_0 i
  have e6 := load_all harg7 x6 inb_S1x64_S1x64_0_0 0
  refine (congr (congr (congr (congr (congr (congr (congrArg Rows.latent e0) e1) e2) e3) e4) e5) e6)

/-- The tables a later point reads, the scratch holding the three tables. -/
theorem levelB_eq (q : Fin 3) (h : ∀ a, (![q.val, 0, 0] : Fin 3 → ℕ) a + S1x1024x64.size a ≤ S3x1024x64.size a)
    (h' : ∀ a, (![q.val, 0, 0] : Fin 3 → ℕ) a + S1x1x1024.size a ≤ S3x1x1024.size a) :
    levelB arg8 harg8 arg11 harg11 arg12 harg12 arg13 harg13 x7 (lens x7) (high x7) (low x7) q.val h h' = level x7 q := by
  have e0 := funext fun y => load_table (Val := Elt Ideal) harg8 x7 q h y
  have e1 := funext fun y => load_table (Val := Elt Ideal) harg11 (lens x7) q h' y
  have e2 := funext fun y => load_table (Val := Elt Ideal) harg12 (high x7) q h y
  have e3 := funext fun y => load_table (Val := Elt Ideal) harg13 (low x7) q h y
  exact congr (congr (congr (congrArg Level.mk e0) e1) e2) e3

end loads

end Cert.Proof.Chunk

end
-- ==== Proof.Stores.lean ====
/-
What the first point leaves in the three scratch arrays, and the tables it reads back from them: the squared lengths and the
two halves of the three codebooks.
-/
module

public import proofs.«01_k».proof.Proof.Tables

@[expose] public section
set_option maxRecDepth 16384
noncomputable section

namespace Cert.Proof.Chunk

open Cert.KernelIdeal Cert.KernelIdeal.Gen
open Idealize.ShloMosaic Idealize.ShloMosaic.TcCoe
open Cert.Proof.Rows (IsReal near rest code total first)

/-- Three stores, one for each table of a stack of three, that agree with `G`: the stack reads `G`. -/
theorem read_stack {n k : ℕ} {e : EltTy} {Val : EltTy → Type} (v : View sig .tc .vmem ⟨3, ![3, n, k]⟩ e) (f : v.ty.Contents Val)
    (w0 w1 w2 : (⟨3, ![1, n, k]⟩ : Shape).Idx → Val e) (G : (⟨3, ![3, n, k]⟩ : Shape).Idx → Val e)
    (h0 : ∀ a, (![0, 0, 0] : Fin 3 → ℕ) a + (![1, n, k] : Fin 3 → ℕ) a ≤ (⟨3, ![3, n, k]⟩ : Shape).size a)
    (h1 : ∀ a, (![1, 0, 0] : Fin 3 → ℕ) a + (![1, n, k] : Fin 3 → ℕ) a ≤ (⟨3, ![3, n, k]⟩ : Shape).size a)
    (h2 : ∀ a, (![2, 0, 0] : Fin 3 → ℕ) a + (![1, n, k] : Fin 3 → ℕ) a ≤ (⟨3, ![3, n, k]⟩ : Shape).size a)
    (e0 : ∀ y, w0 y = G (ix3 0 (y 1) (y 2))) (e1 : ∀ y, w1 y = G (ix3 1 (y 1) (y 2))) (e2 : ∀ y, w2 y = G (ix3 2 (y 1) (y 2))) :
    v.read Val (v.writes Val f [⟨Rect.unit (s := ⟨3, ![3, n, k]⟩) ![2, 0, 0] ![1, n, k] h2, w2⟩,
      ⟨Rect.unit (s := ⟨3, ![3, n, k]⟩) ![1, 0, 0] ![1, n, k] h1, w1⟩, ⟨Rect.unit (s := ⟨3, ![3, n, k]⟩) ![0, 0, 0] ![1, n, k] h0, w0⟩]) = G := by
  funext y
  obtain ⟨q, i, j, rfl⟩ : ∃ q i j, y = ix3 q i j := ⟨_, _, _, eq_ix3 y⟩
  have hin : ∀ (o : Fin 3) (b : Fin 3), ((ix3 o i j : (⟨3, ![3, n, k]⟩ : Shape).Idx) b).val = (![o.val, 0, 0] : Fin 3 → ℕ) b + ((ix3 (0 : Fin 1) i j : (⟨3, ![1, n, k]⟩ : Shape).Idx) b).val := fun o b => by
    match b with
    | ⟨0, _⟩ => rfl
    | ⟨1, _⟩ => exact (Nat.zero_add _).symm
    | ⟨2, _⟩ => exact (Nat.zero_add _).symm
  match q with
  | ⟨0, hq⟩ =>
    rw [View.read_writes_cons_unit_of_not_mem v f h2 w2 _ _ rfl (0 : Fin 3) (Or.inl (show 0 < 2 by decide)),
      View.read_writes_cons_unit_of_not_mem v f h1 w1 _ _ rfl (0 : Fin 3) (Or.inl (show 0 < 1 by decide)),
      View.read_writes_cons_unit_of_mem v f h0 w0 _ _ (ix3 (0 : Fin 1) i j) rfl (hin ⟨0, hq⟩)]
    exact e0 _
  | ⟨1, hq⟩ =>
    rw [View.read_writes_cons_unit_of_not_mem v f h2 w2 _ _ rfl (0 : Fin 3) (Or.inl (show 1 < 2 by decide)),
      View.read_writes_cons_unit_of_mem v f h1 w1 _ _ (ix3 (0 : Fin 1) i j) rfl (hin ⟨1, hq⟩)]
    exact e1 _
  | ⟨2, hq⟩ =>
    rw [View.read_writes_cons_unit_of_mem v f h2 w2 _ _ (ix3 (0 : Fin 1) i j) rfl (hin ⟨2, hq⟩)]
    exact e2 _

/-- What is stored as the squared lengths of one codebook. -/
theorem pay_lens (V : Vec Ideal S1x1024x64 .f32) (y : S1x1x1024.Idx) : (k0_pay5 V y : EReal) = Rows.lenSq fun k => V (ix3 0 (y 2) k) := by
  obtain ⟨a, b, j, rfl⟩ : ∃ a b j, y = ix3 a b j := ⟨_, _, _, eq_ix3 y⟩
  obtain rfl : a = 0 := Subsingleton.elim _ _
  obtain rfl : b = 0 := Subsingleton.elim _ _
  pointwise [k0_pay5, k0_pay4]
  rfl

/-- What is stored as the high half. -/
theorem pay_high (V : Vec Ideal S1x1024x64 .f32) (y : S1x1024x64.Idx) : (k0_pay7 V y : EReal) = V y := by
  obtain ⟨a, b, j, rfl⟩ : ∃ a b j, y = ix3 a b j := ⟨_, _, _, eq_ix3 y⟩
  obtain rfl : a = 0 := Subsingleton.elim _ _
  pointwise [k0_pay7, k0_pay6, k0_pay4]

/-- What is stored as the low half. -/
theorem pay_low (V : Vec Ideal S1x1024x64 .f32) (y : S1x1024x64.Idx) : (k0_pay8 V y : EReal) = V y - V y := by
  obtain ⟨a, b, j, rfl⟩ : ∃ a b j, y = ix3 a b j := ⟨_, _, _, eq_ix3 y⟩
  obtain rfl : a = 0 := Subsingleton.elim _ _
  pointwise [k0_pay8, k0_pay6, k0_pay4]

section stores

variable (c : Dev nD) (arg8 : Memref sig .tc .vmem S3x1024x64 .f32) (harg8 : arg8.IsWhole)
  (arg11 : Memref sig .tc .vmem S3x1x1024 .f32) (arg12 arg13 : Memref sig .tc .vmem S3x1024x64 .bf16) (x7 : Vec Ideal S3x1024x64 .f32)

/-- The first scratch array after the first point's stores: the squared lengths. -/
theorem read_lens (v : View sig .tc .vmem S3x1x1024 .f32) (f : v.ty.Contents (Elt Ideal)) :
    v.read (Elt Ideal) (v.writes (Elt Ideal) f (kernelRun0_A.sl.HS0_3 c arg8 harg8 x7)) = lens x7 := by
  refine read_stack v f _ _ _ _ _ _ _ (fun y => ?_) (fun y => ?_) (fun y => ?_)
  · exact (pay_lens _ y).trans (congrArg Rows.lenSq (funext fun k => load_table (Val := Elt Ideal) harg8 x7 0 inb_S3x1024x64_S1x1024x64_0_0_0 (ix3 0 (y 2) k)))
  · exact (pay_lens _ y).trans (congrArg Rows.lenSq (funext fun k => load_table (Val := Elt Ideal) harg8 x7 1 inb_S3x1024x64_S1x1024x64_1_0_0 (ix3 0 (y 2) k)))
  · exact (pay_lens _ y).trans (congrArg Rows.lenSq (funext fun k => load_table (Val := Elt Ideal) harg8 x7 2 inb_S3x1024x64_S1x1024x64_2_0_0 (ix3 0 (y 2) k)))

/-- The second scratch array: the high halves. -/
theorem read_high (v : View sig .tc .vmem S3x1024x64 .bf16) (f : v.ty.Contents (Elt Ideal)) :
    v.read (Elt Ideal) (v.writes (Elt Ideal) f (kernelRun0_A.sl.HS1_3 c arg8 harg8 x7)) = high x7 := by
  refine read_stack v f _ _ _ _ _ _ _ (fun y => ?_) (fun y => ?_) (fun y => ?_)
  · exact (pay_high _ y).trans (load_table (Val := Elt Ideal) harg8 x7 0 inb_S3x1024x64_S1x1024x64_0_0_0 y)
  · exact (pay_high _ y).trans (load_table (Val := Elt Ideal) harg8 x7 1 inb_S3x1024x64_S1x1024x64_1_0_0 y)
  · exact (pay_high _ y).trans (load_table (Val := Elt Ideal) harg8 x7 2 inb_S3x1024x64_S1x1024x64_2_0_0 y)

/-- The third scratch array: the low halves. -/
theorem read_low (v : View sig .tc .vmem S3x1024x64 .bf16) (f : v.ty.Contents (Elt Ideal)) :
    v.read (Elt Ideal) (v.writes (Elt Ideal) f (kernelRun0_A.sl.HS2_3 c arg8 harg8 x7)) = low x7 := by
  have two : ∀ {a b : EReal}, a = b → a - a = b - b := fun h => by rw [h]
  refine read_stack v f _ _ _ _ _ _ _ (fun y => ?_) (fun y => ?_) (fun y => ?_)
  · exact (pay_low _ y).trans (two (load_table (Val := Elt Ideal) harg8 x7 0 inb_S3x1024x64_S1x1024x64_0_0_0 y))
  · exact (pay_low _ y).trans (two (load_table (Val := Elt Ideal) harg8 x7 1 inb_S3x1024x64_S1x1024x64_1_0_0 y))
  · exact (pay_low _ y).trans (two (load_table (Val := Elt Ideal) harg8 x7 2 inb_S3x1024x64_S1x1024x64_2_0_0 y))

/-- The tables the first point reads are those of the codebook. -/
theorem levelA_eq (q : Fin 3) (h : ∀ a, (![q.val, 0, 0] : Fin 3 → ℕ) a + S1x1024x64.size a ≤ S3x1024x64.size a)
    (h' : ∀ a, (![q.val, 0, 0] : Fin 3 → ℕ) a + S1x1x1024.size a ≤ S3x1x1024.size a) :
    levelA c arg8 harg8 arg11 arg12 arg13 x7 q.val h h' = level x7 q := by
  have e0 := funext fun y => load_table (Val := Elt Ideal) harg8 x7 q h y
  have e1 := funext fun y => (congrFun (read_lens c arg8 harg8 x7 arg11.view arg11.view.junk) _).trans (congrArg (lens x7) (idx_table q h' y))
  have e2 := funext fun y => (congrFun (read_high c arg8 harg8 x7 arg12.view arg12.view.junk) _).trans (congrArg (high x7) (idx_table q h y))
  have e3 := funext fun y => (congrFun (read_low c arg8 harg8 x7 arg13.view arg13.view.junk) _).trans (congrArg (low x7) (idx_table q h y))
  exact congr (congr (congr (congrArg Level.mk e0) e1) e2) e3

end stores

end Cert.Proof.Chunk

end
-- ==== Proof.Block.lean ====
/-
What one block of 2048 rows leaves in the two outputs: eight stores of 256 rows each, all of one function of the block's row.
-/
module

public import proofs.«01_k».proof.Proof.Stores

@[expose] public section
set_option maxRecDepth 16384
noncomputable section

namespace Cert.Proof.Chunk

open Cert.KernelIdeal Cert.KernelIdeal.Gen
open Idealize.ShloMosaic Idealize.ShloMosaic.TcCoe
open Cert.Proof.Rows (IsReal near rest code total first)

/-- A store of 256 rows of `G` and a rest that reads `G` outside them: together they read `G`. -/
theorem read_chunk {C : ℕ} {e : EltTy} {Val : EltTy → Type} (v : View sig .tc .vmem ⟨2, ![2048, C]⟩ e) (f : v.ty.Contents Val)
    (G : (⟨2, ![2048, C]⟩ : Shape).Idx → Val e) (o : ℕ) (h : ∀ a, (![o, 0] : Fin 2 → ℕ) a + (![256, C] : Fin 2 → ℕ) a ≤ (⟨2, ![2048, C]⟩ : Shape).size a)
    (w : (⟨2, ![256, C]⟩ : Shape).Idx → Val e) (L : List (View.Piece Val ⟨2, ![2048, C]⟩ e)) (r : Fin 2048) (j : Fin C)
    (hw : ∀ (i : Fin 256) (hi : o + i.val < 2048), w (ix2 i j) = G (ix2 ⟨o + i.val, hi⟩ j))
    (hL : r.val < o ∨ o + 256 ≤ r.val → v.read Val (v.writes Val f L) (ix2 r j) = G (ix2 r j)) :
    v.read Val (v.writes Val f (⟨Rect.unit (s := ⟨2, ![2048, C]⟩) ![o, 0] ![256, C] h, w⟩ :: L)) (ix2 r j) = G (ix2 r j) := by
  by_cases hr : r.val < o ∨ o + 256 ≤ r.val
  · rw [View.read_writes_cons_rows_of_not_mem v f h w L (ix2 r j) rfl rfl hr]
    exact hL hr
  · have hi : r.val - o < 256 := by omega
    have he : o + (r.val - o) = r.val := by omega
    have hlt : o + (r.val - o) < 2048 := by have := r.isLt; omega
    rw [View.read_writes_cons_rows_of_mem v f h w L (ix2 r j) (ix2 (⟨r.val - o, hi⟩ : Fin 256) j) rfl he.symm rfl]
    exact (hw ⟨r.val - o, hi⟩ hlt).trans (congrArg (fun q => G (ix2 q j)) (Fin.ext he))

/-- Eight stores of 256 rows each, all of `G`: the block reads `G`. -/
theorem read_block {C : ℕ} {e : EltTy} {Val : EltTy → Type} (v : View sig .tc .vmem ⟨2, ![2048, C]⟩ e) (f : v.ty.Contents Val)
    (G : (⟨2, ![2048, C]⟩ : Shape).Idx → Val e)
    (w : (o : ℕ) → (∀ a, (![o, 0] : Fin 2 → ℕ) a + S256x768.size a ≤ S2048x768.size a) → (⟨2, ![256, C]⟩ : Shape).Idx → Val e)
    (hw : ∀ o ho (i : Fin 256) (j : Fin C) (hi : o + i.val < 2048), w o ho (ix2 i j) = G (ix2 ⟨o + i.val, hi⟩ j))
    (h0 : ∀ a, (![0, 0] : Fin 2 → ℕ) a + (![256, C] : Fin 2 → ℕ) a ≤ (⟨2, ![2048, C]⟩ : Shape).size a)
    (h1 : ∀ a, (![256, 0] : Fin 2 → ℕ) a + (![256, C] : Fin 2 → ℕ) a ≤ (⟨2, ![2048, C]⟩ : Shape).size a)
    (h2 : ∀ a, (![512, 0] : Fin 2 → ℕ) a + (![256, C] : Fin 2 → ℕ) a ≤ (⟨2, ![2048, C]⟩ : Shape).size a)
    (h3 : ∀ a, (![768, 0] : Fin 2 → ℕ) a + (![256, C] : Fin 2 → ℕ) a ≤ (⟨2, ![2048, C]⟩ : Shape).size a)
    (h4 : ∀ a, (![1024, 0] : Fin 2 → ℕ) a + (![256, C] : Fin 2 → ℕ) a ≤ (⟨2, ![2048, C]⟩ : Shape).size a)
    (h5 : ∀ a, (![1280, 0] : Fin 2 → ℕ) a + (![256, C] : Fin 2 → ℕ) a ≤ (⟨2, ![2048, C]⟩ : Shape).size a)
    (h6 : ∀ a, (![1536, 0] : Fin 2 → ℕ) a + (![256, C] : Fin 2 → ℕ) a ≤ (⟨2, ![2048, C]⟩ : Shape).size a)
    (h7 : ∀ a, (![1792, 0] : Fin 2 → ℕ) a + (![256, C] : Fin 2 → ℕ) a ≤ (⟨2, ![2048, C]⟩ : Shape).size a) :
    v.read Val (v.writes Val f
      [⟨Rect.unit (s := ⟨2, ![2048, C]⟩) ![1792, 0] ![256, C] h7, w 1792 inb_S2048x768_S256x768_1792_0⟩,
       ⟨Rect.unit (s := ⟨2, ![2048, C]⟩) ![1536, 0] ![256, C] h6, w 1536 inb_S2048x768_S256x768_1536_0⟩,
       ⟨Rect.unit (s := ⟨2, ![2048, C]⟩) ![1280, 0] ![256, C] h5, w 1280 inb_S2048x768_S256x768_1280_0⟩,
       ⟨Rect.unit (s := ⟨2, ![2048, C]⟩) ![1024, 0] ![256, C] h4, w 1024 inb_S2048x768_S256x768_1024_0⟩,
       ⟨Rect.unit (s := ⟨2, ![2048, C]⟩) ![768, 0] ![256, C] h3, w 768 inb_S2048x768_S256x768_768_0⟩,
       ⟨Rect.unit (s := ⟨2, ![2048, C]⟩) ![512, 0] ![256, C] h2, w 512 inb_S2048x768_S256x768_512_0⟩,
       ⟨Rect.unit (s := ⟨2, ![2048, C]⟩) ![256, 0] ![256, C] h1, w 256 inb_S2048x768_S256x768_256_0⟩,
       ⟨Rect.unit (s := ⟨2, ![2048, C]⟩) ![0, 0] ![256, C] h0, w 0 inb_S2048x768_S256x768_0_0⟩]) = G := by
  funext y
  obtain ⟨r, j, rfl⟩ : ∃ r j, y = ix2 r j := ⟨_, _, eq_ix2 y⟩
  have hr := r.isLt
  refine read_chunk v f G _ _ _ _ r j (fun i hi => hw _ _ i j hi) fun c7 => ?_
  refine read_chunk v f G _ _ _ _ r j (fun i hi => hw _ _ i j hi) fun c6 => ?_
  refine read_chunk v f G _ _ _ _ r j (fun i hi => hw _ _ i j hi) fun c5 => ?_
  refine read_chunk v f G _ _ _ _ r j (fun i hi => hw _ _ i j hi) fun c4 => ?_
  refine read_chunk v f G _ _ _ _ r j (fun i hi => hw _ _ i j hi) fun c3 => ?_
  refine read_chunk v f G _ _ _ _ r j (fun i hi => hw _ _ i j hi) fun c2 => ?_
  refine read_chunk v f G _ _ _ _ r j (fun i hi => hw _ _ i j hi) fun c1 => ?_
  exact read_chunk v f G _ _ _ _ r j (fun i hi => hw _ _ i j hi) fun c0 => by omega

section block

variable (x0 : Vec Ideal S2048x768 .f32) (x1 : Vec Ideal S768x512 .f32) (x2 : Vec Ideal S1x512 .f32) (x3 : Vec Ideal S512x256 .f32) (x4 : Vec Ideal S1x256 .f32)
  (x5 : Vec Ideal S256x64 .f32) (x6 : Vec Ideal S1x64 .f32) (x7 : Vec Ideal S3x1024x64 .f32)

/-- The latent of a block's row. -/
def latentRow (r : Fin 2048) : Fin 64 → EReal := Rows.latent (row x0 r) (row x1) (row x2 0) (row x3) (row x4 0) (row x5) (row x6 0)

/-- The rows of one of three codebooks. -/
def book (x : Vec Ideal S3x1024x64 .f32) (q : Fin 3) (j : Fin 1024) (k : Fin 64) : EReal := x (ix3 q j k)

/-- The indices of a block's rows. -/
def blockIds : Vec Ideal S2048x3 .i32 := fun y =>
  BitVec.ofNat 32 (code (latentRow x0 x1 x2 x3 x4 x5 x6 (y 0)) (book x7 0) (book x7 1) (book x7 2) (y 1)).val

/-- The sums of a block's rows. -/
def blockQuant : Vec Ideal S2048x64 .f32 := fun y => total (latentRow x0 x1 x2 x3 x4 x5 x6 (y 0)) (book x7 0) (book x7 1) (book x7 2) (y 1)

/-- Every entry of the block and of the parameters is a real number. -/
structure AllReal : Prop where
  x0 : ∀ i, IsReal (x0 i)
  x1 : ∀ i, IsReal (x1 i)
  x2 : ∀ i, IsReal (x2 i)
  x3 : ∀ i, IsReal (x3 i)
  x4 : ∀ i, IsReal (x4 i)
  x5 : ∀ i, IsReal (x5 i)
  x6 : ∀ i, IsReal (x6 i)
  x7 : ∀ i, IsReal (x7 i)

variable {x0 x1 x2 x3 x4 x5 x6 x7} (hx : AllReal x0 x1 x2 x3 x4 x5 x6 x7)
include hx

theorem latentRow_real (r : Fin 2048) (k : Fin 64) : IsReal (latentRow x0 x1 x2 x3 x4 x5 x6 r k) :=
  Rows.latent_real (fun _ => hx.x0 _) (fun _ _ => hx.x1 _) (fun _ => hx.x2 _) (fun _ _ => hx.x3 _) (fun _ => hx.x4 _) (fun _ _ => hx.x5 _)
    (fun _ => hx.x6 _) k

/-- A chunk's indices are the block's. -/
theorem ids_block (z : FVec Ideal S256x64 .f32) (o : ℕ) (i : Fin 256) (l : Fin 3) (hi : o + i.val < 2048)
    (hz : ∀ (i : Fin 256) (hi : o + i.val < 2048), row z i = latentRow x0 x1 x2 x3 x4 x5 x6 ⟨o + i.val, hi⟩) (ho : o + 256 ≤ 2048) :
    ids z (level x7 0) (level x7 1) (level x7 2) (ix2 i l) = blockIds x0 x1 x2 x3 x4 x5 x6 x7 (ix2 ⟨o + i.val, hi⟩ l) := by
  have hreal : ∀ i k, IsReal (row z i k) := fun i k => by
    rw [hz i (by have := i.isLt; omega)]
    exact latentRow_real hx _ k
  rw [ids_apply _ _ _ (level_good x7 hx.x7 0) (level_good x7 hx.x7 1) (level_good x7 hx.x7 2) z hreal, hz i hi]
  rfl

/-- A chunk's sums are the block's. -/
theorem quant_block (z : FVec Ideal S256x64 .f32) (o : ℕ) (i : Fin 256) (l : Fin 64) (hi : o + i.val < 2048)
    (hz : ∀ (i : Fin 256) (hi : o + i.val < 2048), row z i = latentRow x0 x1 x2 x3 x4 x5 x6 ⟨o + i.val, hi⟩) (ho : o + 256 ≤ 2048) :
    quant z (level x7 0) (level x7 1) (level x7 2) (ix2 i l) = blockQuant x0 x1 x2 x3 x4 x5 x6 x7 (ix2 ⟨o + i.val, hi⟩ l) := by
  have hreal : ∀ i k, IsReal (row z i k) := fun i k => by
    rw [hz i (by have := i.isLt; omega)]
    exact latentRow_real hx _ k
  rw [quant_apply _ _ _ (level_good x7 hx.x7 0) (level_good x7 hx.x7 1) (level_good x7 hx.x7 2) z hreal, hz i hi]
  rfl

end block

section outputs

variable (c : Dev nD) (i : grid0.Coords) (arg1 : Memref sig .tc .vmem S2048x768 .f32) (harg1 : arg1.IsWhole) (arg2 : Memref sig .tc .vmem S768x512 .f32) (harg2 : arg2.IsWhole)
  (arg3 : Memref sig .tc .vmem S1x512 .f32) (harg3 : arg3.IsWhole) (arg4 : Memref sig .tc .vmem S512x256 .f32) (harg4 : arg4.IsWhole)
  (arg5 : Memref sig .tc .vmem S1x256 .f32) (harg5 : arg5.IsWhole) (arg6 : Memref sig .tc .vmem S256x64 .f32) (harg6 : arg6.IsWhole)
  (arg7 : Memref sig .tc .vmem S1x64 .f32) (harg7 : arg7.IsWhole) (arg8 : Memref sig .tc .vmem S3x1024x64 .f32) (harg8 : arg8.IsWhole)
  (arg9 : Memref sig .tc .vmem S2048x3 .i32) (harg9 : arg9.IsWhole) (arg10 : Memref sig .tc .vmem S2048x64 .f32) (harg10 : arg10.IsWhole)
  (arg11 : Memref sig .tc .vmem S3x1x1024 .f32) (harg11 : arg11.IsWhole) (arg12 : Memref sig .tc .vmem S3x1024x64 .bf16) (harg12 : arg12.IsWhole)
  (arg13 : Memref sig .tc .vmem S3x1024x64 .bf16) (harg13 : arg13.IsWhole)
  {x0 : Vec Ideal S2048x768 .f32} {x1 : Vec Ideal S768x512 .f32} {x2 : Vec Ideal S1x512 .f32} {x3 : Vec Ideal S512x256 .f32} {x4 : Vec Ideal S1x256 .f32}
  {x5 : Vec Ideal S256x64 .f32} {x6 : Vec Ideal S1x64 .f32} {x7 : Vec Ideal S3x1024x64 .f32} (hx : AllReal x0 x1 x2 x3 x4 x5 x6 x7)
include hx

/-- The indices a later point leaves. -/
theorem out_ids_B (hc0 : ¬cond0_0 i) : out0_B_8 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 (lens x7) (high x7) (low x7) = blockIds x0 x1 x2 x3 x4 x5 x6 x7 := by
  have e0 : levelB arg8 harg8 arg11 harg11 arg12 harg12 arg13 harg13 x7 (lens x7) (high x7) (low x7) 0 inb_S3x1024x64_S1x1024x64_0_0_0 inb_S3x1x1024_S1x1x1024_0_0_0 = level x7 0 := levelB_eq arg8 harg8 arg11 harg11 arg12 harg12 arg13 harg13 x7 0 _ _
  have e1 : levelB arg8 harg8 arg11 harg11 arg12 harg12 arg13 harg13 x7 (lens x7) (high x7) (low x7) 1 inb_S3x1024x64_S1x1024x64_1_0_0 inb_S3x1x1024_S1x1x1024_1_0_0 = level x7 1 := levelB_eq arg8 harg8 arg11 harg11 arg12 harg12 arg13 harg13 x7 1 _ _
  have e2 : levelB arg8 harg8 arg11 harg11 arg12 harg12 arg13 harg13 x7 (lens x7) (high x7) (low x7) 2 inb_S3x1024x64_S1x1024x64_2_0_0 inb_S3x1x1024_S1x1x1024_2_0_0 = level x7 2 := levelB_eq arg8 harg8 arg11 harg11 arg12 harg12 arg13 harg13 x7 2 _ _
  rw [out0_B_8, ids_pieces_B, e0, e1, e2]
  have hw : ∀ o ho (i : Fin 256) (j : Fin 3) (hi : o + i.val < 2048), ids (latentAt arg1 harg1 arg2 harg2 arg3 harg3 arg4 harg4 arg5 harg5 arg6 harg6 arg7 harg7 x0 x1 x2 x3 x4 x5 x6 o ho) (level x7 0) (level x7 1) (level x7 2) (ix2 i j)
      = blockIds x0 x1 x2 x3 x4 x5 x6 x7 (ix2 ⟨o + i.val, hi⟩ j) := fun o ho i j hi =>
    ids_block hx _ o i j hi (fun i hi => latentAt_row arg1 harg1 arg2 harg2 arg3 harg3 arg4 harg4 arg5 harg5 arg6 harg6 arg7 harg7 x0 x1 x2 x3 x4 x5 x6 o ho i hi) (ho 0)
  exact read_block VO0_8 VO0_8.junk (blockIds x0 x1 x2 x3 x4 x5 x6 x7)
    (fun o ho => ids (latentAt arg1 harg1 arg2 harg2 arg3 harg3 arg4 harg4 arg5 harg5 arg6 harg6 arg7 harg7 x0 x1 x2 x3 x4 x5 x6 o ho) (level x7 0) (level x7 1) (level x7 2)) hw _ _ _ _ _ _ _ _

/-- The sums a later point leaves. -/
theorem out_quant_B (hc0 : ¬cond0_0 i) : out0_B_9 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 (lens x7) (high x7) (low x7) = blockQuant x0 x1 x2 x3 x4 x5 x6 x7 := by
  have e0 : levelB arg8 harg8 arg11 harg11 arg12 harg12 arg13 harg13 x7 (lens x7) (high x7) (low x7) 0 inb_S3x1024x64_S1x1024x64_0_0_0 inb_S3x1x1024_S1x1x1024_0_0_0 = level x7 0 := levelB_eq arg8 harg8 arg11 harg11 arg12 harg12 arg13 harg13 x7 0 _ _
  have e1 : levelB arg8 harg8 arg11 harg11 arg12 harg12 arg13 harg13 x7 (lens x7) (high x7) (low x7) 1 inb_S3x1024x64_S1x1024x64_1_0_0 inb_S3x1x1024_S1x1x1024_1_0_0 = level x7 1 := levelB_eq arg8 harg8 arg11 harg11 arg12 harg12 arg13 harg13 x7 1 _ _
  have e2 : levelB arg8 harg8 arg11 harg11 arg12 harg12 arg13 harg13 x7 (lens x7) (high x7) (low x7) 2 inb_S3x1024x64_S1x1024x64_2_0_0 inb_S3x1x1024_S1x1x1024_2_0_0 = level x7 2 := levelB_eq arg8 harg8 arg11 harg11 arg12 harg12 arg13 harg13 x7 2 _ _
  rw [out0_B_9, quant_pieces_B, e0, e1, e2]
  have hw : ∀ o ho (i : Fin 256) (j : Fin 64) (hi : o + i.val < 2048), quant (latentAt arg1 harg1 arg2 harg2 arg3 harg3 arg4 harg4 arg5 harg5 arg6 harg6 arg7 harg7 x0 x1 x2 x3 x4 x5 x6 o ho) (level x7 0) (level x7 1) (level x7 2) (ix2 i j)
      = blockQuant x0 x1 x2 x3 x4 x5 x6 x7 (ix2 ⟨o + i.val, hi⟩ j) := fun o ho i j hi =>
    quant_block hx _ o i j hi (fun i hi => latentAt_row arg1 harg1 arg2 harg2 arg3 harg3 arg4 harg4 arg5 harg5 arg6 harg6 arg7 harg7 x0 x1 x2 x3 x4 x5 x6 o ho i hi) (ho 0)
  exact read_block VO0_9 VO0_9.junk (blockQuant x0 x1 x2 x3 x4 x5 x6 x7)
    (fun o ho => quant (latentAt arg1 harg1 arg2 harg2 arg3 harg3 arg4 harg4 arg5 harg5 arg6 harg6 arg7 harg7 x0 x1 x2 x3 x4 x5 x6 o ho) (level x7 0) (level x7 1) (level x7 2)) hw _ _ _ _ _ _ _ _

/-- The indices the first point leaves. -/
theorem out_ids_A (hc0 : cond0_0 i) : out0_A_8 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 = blockIds x0 x1 x2 x3 x4 x5 x6 x7 := by
  have e0 : levelA c arg8 harg8 arg11 arg12 arg13 x7 0 inb_S3x1024x64_S1x1024x64_0_0_0 inb_S3x1x1024_S1x1x1024_0_0_0 = level x7 0 := levelA_eq c arg8 harg8 arg11 arg12 arg13 x7 0 _ _
  have e1 : levelA c arg8 harg8 arg11 arg12 arg13 x7 1 inb_S3x1024x64_S1x1024x64_1_0_0 inb_S3x1x1024_S1x1x1024_1_0_0 = level x7 1 := levelA_eq c arg8 harg8 arg11 arg12 arg13 x7 1 _ _
  have e2 : levelA c arg8 harg8 arg11 arg12 arg13 x7 2 inb_S3x1024x64_S1x1024x64_2_0_0 inb_S3x1x1024_S1x1x1024_2_0_0 = level x7 2 := levelA_eq c arg8 harg8 arg11 arg12 arg13 x7 2 _ _
  rw [out0_A_8, ids_pieces_A, e0, e1, e2]
  have hw : ∀ o ho (i : Fin 256) (j : Fin 3) (hi : o + i.val < 2048), ids (latentAt arg1 harg1 arg2 harg2 arg3 harg3 arg4 harg4 arg5 harg5 arg6 harg6 arg7 harg7 x0 x1 x2 x3 x4 x5 x6 o ho) (level x7 0) (level x7 1) (level x7 2) (ix2 i j)
      = blockIds x0 x1 x2 x3 x4 x5 x6 x7 (ix2 ⟨o + i.val, hi⟩ j) := fun o ho i j hi =>
    ids_block hx _ o i j hi (fun i hi => latentAt_row arg1 harg1 arg2 harg2 arg3 harg3 arg4 harg4 arg5 harg5 arg6 harg6 arg7 harg7 x0 x1 x2 x3 x4 x5 x6 o ho i hi) (ho 0)
  exact read_block VO0_8 VO0_8.junk (blockIds x0 x1 x2 x3 x4 x5 x6 x7)
    (fun o ho => ids (latentAt arg1 harg1 arg2 harg2 arg3 harg3 arg4 harg4 arg5 harg5 arg6 harg6 arg7 harg7 x0 x1 x2 x3 x4 x5 x6 o ho) (level x7 0) (level x7 1) (level x7 2)) hw _ _ _ _ _ _ _ _

/-- The sums the first point leaves. -/
theorem out_quant_A (hc0 : cond0_0 i) : out0_A_9 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 = blockQuant x0 x1 x2 x3 x4 x5 x6 x7 := by
  have e0 : levelA c arg8 harg8 arg11 arg12 arg13 x7 0 inb_S3x1024x64_S1x1024x64_0_0_0 inb_S3x1x1024_S1x1x1024_0_0_0 = level x7 0 := levelA_eq c arg8 harg8 arg11 arg12 arg13 x7 0 _ _
  have e1 : levelA c arg8 harg8 arg11 arg12 arg13 x7 1 inb_S3x1024x64_S1x1024x64_1_0_0 inb_S3x1x1024_S1x1x1024_1_0_0 = level x7 1 := levelA_eq c arg8 harg8 arg11 arg12 arg13 x7 1 _ _
  have e2 : levelA c arg8 harg8 arg11 arg12 arg13 x7 2 inb_S3x1024x64_S1x1024x64_2_0_0 inb_S3x1x1024_S1x1x1024_2_0_0 = level x7 2 := levelA_eq c arg8 harg8 arg11 arg12 arg13 x7 2 _ _
  rw [out0_A_9, quant_pieces_A, e0, e1, e2]
  have hw : ∀ o ho (i : Fin 256) (j : Fin 64) (hi : o + i.val < 2048), quant (latentAt arg1 harg1 arg2 harg2 arg3 harg3 arg4 harg4 arg5 harg5 arg6 harg6 arg7 harg7 x0 x1 x2 x3 x4 x5 x6 o ho) (level x7 0) (level x7 1) (level x7 2) (ix2 i j)
      = blockQuant x0 x1 x2 x3 x4 x5 x6 x7 (ix2 ⟨o + i.val, hi⟩ j) := fun o ho i j hi =>
    quant_block hx _ o i j hi (fun i hi => latentAt_row arg1 harg1 arg2 harg2 arg3 harg3 arg4 harg4 arg5 harg5 arg6 harg6 arg7 harg7 x0 x1 x2 x3 x4 x5 x6 o ho i hi) (ho 0)
  exact read_block VO0_9 VO0_9.junk (blockQuant x0 x1 x2 x3 x4 x5 x6 x7)
    (fun o ho => quant (latentAt arg1 harg1 arg2 harg2 arg3 harg3 arg4 harg4 arg5 harg5 arg6 harg6 arg7 harg7 x0 x1 x2 x3 x4 x5 x6 o ho) (level x7 0) (level x7 1) (level x7 2)) hw _ _ _ _ _ _ _ _

omit hx

/-- The squared lengths the first point leaves in the scratch. -/
theorem out_lens_A (hc0 : cond0_0 i) : sout0_A_0 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 = lens x7 :=
  read_lens c arg8 harg8 x7 VS0_0 VS0_0.junk

/-- The high halves the first point leaves in the scratch. -/
theorem out_high_A (hc0 : cond0_0 i) : sout0_A_1 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 = high x7 :=
  read_high c arg8 harg8 x7 VS0_1 VS0_1.junk

/-- The low halves the first point leaves in the scratch. -/
theorem out_low_A (hc0 : cond0_0 i) : sout0_A_2 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 = low x7 :=
  read_low c arg8 harg8 x7 VS0_2 VS0_2.junk

end outputs

end Cert.Proof.Chunk

end
-- ==== Proof.Arrays.lean ====
/-
The blocks that the kernel's windows give each point, as entries of the launch's arguments.
-/
module

public import proofs.«01_k».proof.Proof.Block
public import Idealize.ShloMosaic.Lib.StableHlo.ReadAt

@[expose] public section
set_option maxRecDepth 16384
noncomputable section

namespace Cert.Proof.Chunk

open Cert.KernelIdeal Cert.KernelIdeal.Gen
open Idealize.ShloMosaic Idealize.ShloMosaic.TcCoe

variable (m : (ℓ : Loc nD τ sig) → Buf (Elt Ideal) ℓ) (c : Dev nD)

/-- The rows of the block of point `t`. -/
theorem iblk_x (t : Fin cfg0.N) (r : Fin 2048) (j : Fin 768) (h : 2048 * t.val + r.val < 16384) :
    (iblk m c 0 t : Vec Ideal S2048x768 .f32) (ix2 r j) = (m (c.tc.loc main_arg0) : Vec Ideal S16384x768 .f32) (ix2 ⟨2048 * t.val + r.val, h⟩ j) := by
  have hi : ∀ t : Fin cfg0.N, win0_0.index t (0 : Fin 2) = t.val ∧ win0_0.index t (1 : Fin 2) = 0 := (by decide +kernel : ∀ t : Fin grid0.N, _)
  unfold iblk
  rw [View.read_apply]
  show V m c main_arg0 _ = m (c.tc.loc main_arg0) _
  rw [V_main_arg0]
  congr 1
  funext a
  apply Fin.ext
  match a with
  | ⟨0, _⟩ => show win0_0.index t 0 * 2048 + 1 * r.val = 2048 * t.val + r.val; rw [(hi t).1]; omega
  | ⟨1, _⟩ => show win0_0.index t 1 * 768 + 1 * j.val = j.val; rw [(hi t).2]; omega

/-- The first layer's weights. -/
theorem iblk_w1 (t : Fin cfg0.N) : (iblk m c 1 t : Vec Ideal S768x512 .f32) = m (c.tc.loc main_arg1) := by
  have hi : ∀ t : Fin cfg0.N, win0_1.index t (0 : Fin 2) = 0 ∧ win0_1.index t (1 : Fin 2) = 0 := (by decide +kernel : ∀ t : Fin grid0.N, _)
  funext y
  unfold iblk
  rw [View.read_apply]
  show V m c main_arg1 _ = m (c.tc.loc main_arg1) _
  rw [V_main_arg1]
  congr 1
  funext a
  apply Fin.ext
  match a with
  | ⟨0, _⟩ => show win0_1.index t 0 * 768 + 1 * (y 0).val = (y 0).val; rw [(hi t).1]; omega
  | ⟨1, _⟩ => show win0_1.index t 1 * 512 + 1 * (y 1).val = (y 1).val; rw [(hi t).2]; omega

/-- The second layer's weights. -/
theorem iblk_w2 (t : Fin cfg0.N) : (iblk m c 3 t : Vec Ideal S512x256 .f32) = m (c.tc.loc main_arg3) := by
  have hi : ∀ t : Fin cfg0.N, win0_3.index t (0 : Fin 2) = 0 ∧ win0_3.index t (1 : Fin 2) = 0 := (by decide +kernel : ∀ t : Fin grid0.N, _)
  funext y
  unfold iblk
  rw [View.read_apply]
  show V m c main_arg3 _ = m (c.tc.loc main_arg3) _
  rw [V_main_arg3]
  congr 1
  funext a
  apply Fin.ext
  match a with
  | ⟨0, _⟩ => show win0_3.index t 0 * 512 + 1 * (y 0).val = (y 0).val; rw [(hi t).1]; omega
  | ⟨1, _⟩ => show win0_3.index t 1 * 256 + 1 * (y 1).val = (y 1).val; rw [(hi t).2]; omega

/-- The third layer's weights. -/
theorem iblk_w3 (t : Fin cfg0.N) : (iblk m c 5 t : Vec Ideal S256x64 .f32) = m (c.tc.loc main_arg5) := by
  have hi : ∀ t : Fin cfg0.N, win0_5.index t (0 : Fin 2) = 0 ∧ win0_5.index t (1 : Fin 2) = 0 := (by decide +kernel : ∀ t : Fin grid0.N, _)
  funext y
  unfold iblk
  rw [View.read_apply]
  show V m c main_arg5 _ = m (c.tc.loc main_arg5) _
  rw [V_main_arg5]
  congr 1
  funext a
  apply Fin.ext
  match a with
  | ⟨0, _⟩ => show win0_5.index t 0 * 256 + 1 * (y 0).val = (y 0).val; rw [(hi t).1]; omega
  | ⟨1, _⟩ => show win0_5.index t 1 * 64 + 1 * (y 1).val = (y 1).val; rw [(hi t).2]; omega

/-- The codebooks. -/
theorem iblk_books (t : Fin cfg0.N) : (iblk m c 7 t : Vec Ideal S3x1024x64 .f32) = m (c.tc.loc main_arg7) := by
  have hi : ∀ t : Fin cfg0.N, win0_7.index t (0 : Fin 3) = 0 ∧ win0_7.index t (1 : Fin 3) = 0 ∧ win0_7.index t (2 : Fin 3) = 0 :=
    (by decide +kernel : ∀ t : Fin grid0.N, _)
  funext y
  unfold iblk
  rw [View.read_apply]
  show V m c main_arg7 _ = m (c.tc.loc main_arg7) _
  rw [V_main_arg7]
  congr 1
  funext a
  apply Fin.ext
  match a with
  | ⟨0, _⟩ => show win0_7.index t 0 * 3 + 1 * (y 0).val = (y 0).val; rw [(hi t).1]; omega
  | ⟨1, _⟩ => show win0_7.index t 1 * 1024 + 1 * (y 1).val = (y 1).val; rw [(hi t).2.1]; omega
  | ⟨2, _⟩ => show win0_7.index t 2 * 64 + 1 * (y 2).val = (y 2).val; rw [(hi t).2.2]; omega

/-- The launch sees the first layer's bias as one row. -/
theorem V_b1 (j : Fin 512) : (V m c main_call0_v0 : Vec Ideal S1x512 .f32) (ix2 0 j) = (m (c.tc.loc main_arg2) : Vec Ideal S512 .f32) (ix1 j) := by
  show StableHlo.after hostOps0 (fun b => m (c, b)) (Proc.devRef .tc main_call0_v0) (ix2 (0 : Fin 1) j) = _
  unfold hostOps0
  after_reads_at

/-- The first layer's bias. -/
theorem iblk_b1 (t : Fin cfg0.N) (j : Fin 512) : (iblk m c 2 t : Vec Ideal S1x512 .f32) (ix2 0 j) = (m (c.tc.loc main_arg2) : Vec Ideal S512 .f32) (ix1 j) := by
  have hi : ∀ t : Fin cfg0.N, win0_2.index t (0 : Fin 2) = 0 ∧ win0_2.index t (1 : Fin 2) = 0 := (by decide +kernel : ∀ t : Fin grid0.N, _)
  rw [← V_b1 m c]
  unfold iblk
  rw [View.read_apply]
  show V m c main_call0_v0 _ = V m c main_call0_v0 _
  congr 1
  funext a
  apply Fin.ext
  match a with
  | ⟨0, _⟩ => show win0_2.index t 0 * 1 + 1 * 0 = 0; rw [(hi t).1]
  | ⟨1, _⟩ => show win0_2.index t 1 * 512 + 1 * j.val = j.val; rw [(hi t).2]; omega

/-- The launch sees the second layer's bias as one row. -/
theorem V_b2 (j : Fin 256) : (V m c main_call0_v1 : Vec Ideal S1x256 .f32) (ix2 0 j) = (m (c.tc.loc main_arg4) : Vec Ideal S256 .f32) (ix1 j) := by
  show StableHlo.after hostOps0 (fun b => m (c, b)) (Proc.devRef .tc main_call0_v1) (ix2 (0 : Fin 1) j) = _
  unfold hostOps0
  after_reads_at

/-- The second layer's bias. -/
theorem iblk_b2 (t : Fin cfg0.N) (j : Fin 256) : (iblk m c 4 t : Vec Ideal S1x256 .f32) (ix2 0 j) = (m (c.tc.loc main_arg4) : Vec Ideal S256 .f32) (ix1 j) := by
  have hi : ∀ t : Fin cfg0.N, win0_4.index t (0 : Fin 2) = 0 ∧ win0_4.index t (1 : Fin 2) = 0 := (by decide +kernel : ∀ t : Fin grid0.N, _)
  rw [← V_b2 m c]
  unfold iblk
  rw [View.read_apply]
  show V m c main_call0_v1 _ = V m c main_call0_v1 _
  congr 1
  funext a
  apply Fin.ext
  match a with
  | ⟨0, _⟩ => show win0_4.index t 0 * 1 + 1 * 0 = 0; rw [(hi t).1]
  | ⟨1, _⟩ => show win0_4.index t 1 * 256 + 1 * j.val = j.val; rw [(hi t).2]; omega

/-- The launch sees the third layer's bias as one row. -/
theorem V_b3 (j : Fin 64) : (V m c main_call0_v2 : Vec Ideal S1x64 .f32) (ix2 0 j) = (m (c.tc.loc main_arg6) : Vec Ideal S64 .f32) (ix1 j) := by
  show StableHlo.after hostOps0 (fun b => m (c, b)) (Proc.devRef .tc main_call0_v2) (ix2 (0 : Fin 1) j) = _
  unfold hostOps0
  after_reads_at

/-- The third layer's bias. -/
theorem iblk_b3 (t : Fin cfg0.N) (j : Fin 64) : (iblk m c 6 t : Vec Ideal S1x64 .f32) (ix2 0 j) = (m (c.tc.loc main_arg6) : Vec Ideal S64 .f32) (ix1 j) := by
  have hi : ∀ t : Fin cfg0.N, win0_6.index t (0 : Fin 2) = 0 ∧ win0_6.index t (1 : Fin 2) = 0 := (by decide +kernel : ∀ t : Fin grid0.N, _)
  rw [← V_b3 m c]
  unfold iblk
  rw [View.read_apply]
  show V m c main_call0_v2 _ = V m c main_call0_v2 _
  congr 1
  funext a
  apply Fin.ext
  match a with
  | ⟨0, _⟩ => show win0_6.index t 0 * 1 + 1 * 0 = 0; rw [(hi t).1]
  | ⟨1, _⟩ => show win0_6.index t 1 * 64 + 1 * j.val = j.val; rw [(hi t).2]; omega

end Cert.Proof.Chunk

end
-- ==== Proof.Points.lean ====
/-
What every point of the grid leaves: its block of the two outputs, and the tables of the codebooks that the first point put in the scratch.
-/
module

public import proofs.«01_k».proof.Proof.Arrays
public import proofs.«01_k».proof.Proof.Gen.KernelIdeal.Value

@[expose] public section
set_option maxRecDepth 16384
noncomputable section

namespace Cert.Proof.Chunk

open Cert.KernelIdeal Cert.KernelIdeal.Gen Cert.KernelIdeal.Value
open Idealize.ShloMosaic Idealize.ShloMosaic.TcCoe
open Cert.Proof.Rows (IsReal)

variable (m : (ℓ : Loc nD τ sig) → Buf (Elt Ideal) ℓ) (c : Dev nD)

/-- Every entry of the launch's arguments is a real number. -/
structure LaunchReal : Prop where
  a0 : ∀ i, IsReal ((m (c.tc.loc main_arg0) : Vec Ideal S16384x768 .f32) i)
  a1 : ∀ i, IsReal ((m (c.tc.loc main_arg1) : Vec Ideal S768x512 .f32) i)
  a2 : ∀ i, IsReal ((m (c.tc.loc main_arg2) : Vec Ideal S512 .f32) i)
  a3 : ∀ i, IsReal ((m (c.tc.loc main_arg3) : Vec Ideal S512x256 .f32) i)
  a4 : ∀ i, IsReal ((m (c.tc.loc main_arg4) : Vec Ideal S256 .f32) i)
  a5 : ∀ i, IsReal ((m (c.tc.loc main_arg5) : Vec Ideal S256x64 .f32) i)
  a6 : ∀ i, IsReal ((m (c.tc.loc main_arg6) : Vec Ideal S64 .f32) i)
  a7 : ∀ i, IsReal ((m (c.tc.loc main_arg7) : Vec Ideal S3x1024x64 .f32) i)

variable {m c}

/-- Then so is every entry of a point's blocks. -/
theorem LaunchReal.block (h : LaunchReal m c) (t : Fin cfg0.N) :
    AllReal (iblk m c 0 t) (iblk m c 1 t) (iblk m c 2 t) (iblk m c 3 t) (iblk m c 4 t) (iblk m c 5 t) (iblk m c 6 t) (iblk m c 7 t) where
  x0 i := by
    have ht : t.val < 8 := lt_of_lt_of_eq t.isLt N_0
    obtain ⟨r, j, rfl⟩ : ∃ (r : Fin 2048) (j : Fin 768), i = ix2 r j := ⟨i 0, i 1, eq_ix2 i⟩
    rw [iblk_x m c t r j (by have := r.isLt; omega)]
    exact h.a0 _
  x1 i := by rw [iblk_w1]; exact h.a1 i
  x2 i := by
    obtain ⟨r, j, rfl⟩ : ∃ (r : Fin 1) (j : Fin 512), i = ix2 r j := ⟨i 0, i 1, eq_ix2 i⟩
    obtain rfl : r = 0 := Subsingleton.elim _ _
    rw [iblk_b1]; exact h.a2 _
  x3 i := by rw [iblk_w2]; exact h.a3 i
  x4 i := by
    obtain ⟨r, j, rfl⟩ : ∃ (r : Fin 1) (j : Fin 256), i = ix2 r j := ⟨i 0, i 1, eq_ix2 i⟩
    obtain rfl : r = 0 := Subsingleton.elim _ _
    rw [iblk_b2]; exact h.a4 _
  x5 i := by rw [iblk_w3]; exact h.a5 i
  x6 i := by
    obtain ⟨r, j, rfl⟩ : ∃ (r : Fin 1) (j : Fin 64), i = ix2 r j := ⟨i 0, i 1, eq_ix2 i⟩
    obtain rfl : r = 0 := Subsingleton.elim _ _
    rw [iblk_b3]; exact h.a6 _
  x7 i := by rw [iblk_books]; exact h.a7 i

variable (m c)

/-- The indices of the block of point `t`. -/
def idsAt (t : Fin cfg0.N) : Vec Ideal S2048x3 .i32 :=
  blockIds (iblk m c 0 t) (iblk m c 1 t) (iblk m c 2 t) (iblk m c 3 t) (iblk m c 4 t) (iblk m c 5 t) (iblk m c 6 t) (iblk m c 7 t)

/-- The sums of the block of point `t`. -/
def quantAt (t : Fin cfg0.N) : Vec Ideal S2048x64 .f32 :=
  blockQuant (iblk m c 0 t) (iblk m c 1 t) (iblk m c 2 t) (iblk m c 3 t) (iblk m c 4 t) (iblk m c 5 t) (iblk m c 6 t) (iblk m c 7 t)

/-- The launch's codebooks. -/
abbrev books : Vec Ideal S3x1024x64 .f32 := m (c.tc.loc main_arg7)

variable {m c}

/-- Two tuples of five are equal part by part. -/
theorem five_eq {A B C D E : Type} {a a' : A} {b b' : B} {d d' : C} {e e' : D} {f f' : E} (ha : a = a') (hb : b = b') (hd : d = d') (he : e = e')
    (hf : f = f') : (a, b, d, e, f) = (a', b', d', e', f') := by
  subst ha hb hd he hf
  rfl

/-- The first point leaves its block and the tables, whatever was there before. -/
theorem step_first (h : LaunchReal m c) (t : Fin cfg0.N) (h0 : t.val % 8 = 0)
    (acc : Vec Ideal S2048x3 .i32 × Vec Ideal S2048x64 .f32 × Vec Ideal S3x1x1024 .f32 × Vec Ideal S3x1024x64 .bf16 × Vec Ideal S3x1024x64 .bf16) :
    stAt0 m c t.val t.isLt acc = (idsAt m c t, quantAt m c t, lens (books m c), high (books m c), low (books m c)) := by
  rw [stAt0_A m c t acc h0]
  have e8 := out_ids_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (h.block t) ((hcond0_0 t).mpr h0)
  have e9 := out_quant_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (h.block t) ((hcond0_0 t).mpr h0)
  have el := (out_lens_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (x0 := iblk m c 0 t) (x1 := iblk m c 1 t) (x2 := iblk m c 2 t) (x3 := iblk m c 3 t) (x4 := iblk m c 4 t) (x5 := iblk m c 5 t) (x6 := iblk m c 6 t) (x7 := iblk m c 7 t) ((hcond0_0 t).mpr h0)).trans (congrArg lens (iblk_books m c t))
  have eh := (out_high_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (x0 := iblk m c 0 t) (x1 := iblk m c 1 t) (x2 := iblk m c 2 t) (x3 := iblk m c 3 t) (x4 := iblk m c 4 t) (x5 := iblk m c 5 t) (x6 := iblk m c 6 t) (x7 := iblk m c 7 t) ((hcond0_0 t).mpr h0)).trans (congrArg high (iblk_books m c t))
  have eo := (out_low_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (x0 := iblk m c 0 t) (x1 := iblk m c 1 t) (x2 := iblk m c 2 t) (x3 := iblk m c 3 t) (x4 := iblk m c 4 t) (x5 := iblk m c 5 t) (x6 := iblk m c 6 t) (x7 := iblk m c 7 t) ((hcond0_0 t).mpr h0)).trans (congrArg low (iblk_books m c t))
  exact five_eq e8 e9 el eh eo

/-- A later point leaves its block and keeps the tables. -/
theorem step_later (h : LaunchReal m c) (t : Fin cfg0.N) (h0 : ¬t.val % 8 = 0) (u : Vec Ideal S2048x3 .i32) (v : Vec Ideal S2048x64 .f32) :
    stAt0 m c t.val t.isLt (u, v, lens (books m c), high (books m c), low (books m c))
      = (idsAt m c t, quantAt m c t, lens (books m c), high (books m c), low (books m c)) := by
  rw [stAt0_B m c t _ h0]
  have e7 : books m c = iblk m c 7 t := (iblk_books m c t).symm
  have e8 := out_ids_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (h.block t) (fun h => h0 ((hcond0_0 t).mp h))
  have e9 := out_quant_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (h.block t) (fun h => h0 ((hcond0_0 t).mp h))
  rw [← e7] at e8 e9
  have f8 : idsAt m c t = blockIds (iblk m c 0 t) (iblk m c 1 t) (iblk m c 2 t) (iblk m c 3 t) (iblk m c 4 t) (iblk m c 5 t) (iblk m c 6 t) (books m c) :=
    congrArg (fun x => blockIds (iblk m c 0 t) (iblk m c 1 t) (iblk m c 2 t) (iblk m c 3 t) (iblk m c 4 t) (iblk m c 5 t) (iblk m c 6 t) x) e7.symm
  have f9 : quantAt m c t = blockQuant (iblk m c 0 t) (iblk m c 1 t) (iblk m c 2 t) (iblk m c 3 t) (iblk m c 4 t) (iblk m c 5 t) (iblk m c 6 t) (books m c) :=
    congrArg (fun x => blockQuant (iblk m c 0 t) (iblk m c 1 t) (iblk m c 2 t) (iblk m c 3 t) (iblk m c 4 t) (iblk m c 5 t) (iblk m c 6 t) x) e7.symm
  rw [f8, f9, ← e7]
  exact five_eq e8 e9 rfl rfl rfl

/-- What point `n` leaves. -/
theorem outsAt_eq (h : LaunchReal m c) : ∀ (n : ℕ) (hn : n < cfg0.N),
    outsAt0 m c n hn = (idsAt m c ⟨n, hn⟩, quantAt m c ⟨n, hn⟩, lens (books m c), high (books m c), low (books m c))
  | 0, hn => (outsAt0_zero m c hn).trans (step_first h ⟨0, hn⟩ (Nat.zero_mod 8) junk0)
  | n + 1, hn => by
    have h8 : n + 1 < 8 := lt_of_lt_of_eq hn N_0
    rw [outsAt0_succ m c n hn, outsAt_eq h n (Nat.lt_of_succ_lt hn)]
    exact step_later h ⟨n + 1, hn⟩ (by show ¬(n + 1) % 8 = 0; omega) _ _

end Cert.Proof.Chunk

end
-- ==== Proof.Argmin.lean ====
/-
The reference's two table operations at one row: the argmin along a row of distances, and the rows of a table taken at
given row numbers.
-/
module

public import proofs.«01_k».proof.Proof.Words
public import Idealize.ShloMosaic.Lib.Pointwise
public import Idealize.ShloMosaic.PureOps

@[expose] public section
set_option maxRecDepth 16384
noncomputable section

namespace Cert.Proof.Argmin

open Idealize.ShloMosaic
open Cert.Proof.Rows Cert.Proof.Words

/-- The argmin along the rows of an n x 1024 array of distances is the first minimum of each row. -/
theorem argmin_row {n : ℕ} {u : Shape} (x : FVec Ideal ⟨2, ![n, 1024]⟩ .f32) (y : IVec ⟨2, ![n, 1024]⟩ 32)
    (ix : FVec Ideal u .f32) (iy : IVec u 32) (h : (⟨2, ![n, 1024]⟩ : Shape).ReducesTo [1] ⟨1, ![n]⟩) (hu : 0 < u.numel)
    (hy : ∀ (i : Fin n) (j : Fin 1024), y (ix2 i j) = BitVec.ofNat 32 j.val) (hix : ∀ j, ix j = ⊤) (hiy : ∀ j, iy j = 0#32) (i : Fin n) :
    (Host.argReduce (F := Ideal) Cert.ReferenceIdeal.reducer_argmin_f32_i32 x y ix iy h hu (ix1 i)).2
      = BitVec.ofNat 32 (first fun j => x (ix2 i j)).val := by
  rw [Ideal.argReduce_eq_reduce2, Host.reduce2_eq_foldl_fiber, hix, hiy]
  have hdrop : ∀ a : (⟨2, ![n, 1024]⟩ : Shape).Idx, (h.drop a 0 : Nat) = a 0 := fun a => h.drop_apply_val_of_eq a 0 0 Nat.zero_lt_one rfl
  refine foldl_first _ _ (fun p hp => ?_) fun j => ?_
  · rw [Host.argReduceFiber, List.mem_map] at hp
    obtain ⟨m, hm, rfl⟩ := hp
    have hm' := of_decide_eq_true (List.mem_filter.mp hm).2
    generalize (⟨2, ![n, 1024]⟩ : Shape).rowMajor.symm m = a at hm'
    obtain ⟨a0, a1, rfl⟩ : ∃ a0 a1, a = ix2 a0 a1 := ⟨_, _, eq_ix2 a⟩
    have h0 : (a0 : Nat) = i := (hdrop (ix2 a0 a1)).symm.trans (congrArg Fin.val (congrFun hm' 0))
    obtain rfl : a0 = i := Fin.ext h0
    exact ⟨a1, Prod.ext rfl (hy a0 a1)⟩
  · rw [Host.argReduceFiber, List.mem_map]
    refine ⟨(⟨2, ![n, 1024]⟩ : Shape).rowMajor (ix2 i j), List.mem_filter.mpr ⟨List.mem_finRange _, decide_eq_true ?_⟩, ?_⟩
    · rw [Equiv.symm_apply_apply]
      funext b
      match b with
      | ⟨0, _⟩ => exact Fin.ext (hdrop (ix2 i j))
    · rw [Equiv.symm_apply_apply, hy]

/-- Rows of an N x C table gathered at a column of n row numbers: row `i` is the table's row `idx i`, read signed and kept
inside the table. -/
theorem gather_rows {α : Type} {N C n w : ℕ} (hN : 0 < N) (d : GatherDims ⟨2, ![N, C]⟩ ⟨2, ![n, 1]⟩ ⟨2, ![n, C]⟩)
    (hoff : d.offsetDims = [1]) (hcoll : d.collapsedSliceDims = [0]) (hob : d.operandBatchingDims = []) (hsb : d.startIndicesBatchingDims = [])
    (hsim : d.startIndexMap = [0]) (hivd : d.indexVectorDim = 1)
    (x : (⟨2, ![N, C]⟩ : Shape).Idx → α) (idx : IVec ⟨2, ![n, 1]⟩ w) (i : Fin n) (k : Fin C) :
    Host.gather d x idx (ix2 i k) = x (ix2 ⟨min (idx (ix2 i 0)).toInt.toNat (N - 1), by omega⟩ k) := by
  obtain ⟨od, cd, ob, sb, sm, iv, ss, wf⟩ := d
  simp only at hoff hcoll hob hsb hsim hivd
  subst hoff hcoll hob hsb hsim hivd
  have hs0 : ss 0 = 1 := GatherDims.slice_collapsed ⟨_, _, _, _, _, _, ss, wf⟩ 0 (List.mem_singleton.mpr rfl)
  unfold Host.gather
  congr 1
  funext a
  refine Fin.ext ?_
  match a with
  | ⟨0, _⟩ =>
    show GatherDims.start _ _ idx 0 + GatherDims.batchCoord _ _ 0 + GatherDims.offCoord _ _ 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    show min (idx _).toInt.toNat (N - ss 0) = min (idx (ix2 i 0)).toInt.toNat (N - 1)
    rw [hs0]
    congr 3
    congr 1
    funext b
    refine Fin.ext ?_
    match b with
    | ⟨0, _⟩ => rfl
    | ⟨1, _⟩ => rfl
  | ⟨1, _⟩ =>
    show GatherDims.start _ _ idx 1 + GatherDims.batchCoord _ _ 1 + GatherDims.offCoord _ _ 1 = _
    rw [GatherDims.batchCoord_eq_zero _ _ _ List.not_mem_nil]
    unfold GatherDims.start
    rw [dif_neg (by simp)]
    simp only [Nat.zero_add, Nat.add_zero]
    rfl

end Cert.Proof.Argmin

end
-- ==== Proof.RefValue.lean ====
/-
What the reference computes, at an index, over the real numbers: the latent rows, the nearest codebook rows, what is left
after each level, the indices and the sum.
-/
module

public import proofs.«01_k».proof.Proof.RefRun
public import proofs.«01_k».proof.Proof.Argmin
public import Idealize.ShloMosaic.Lib.Pointwise
public import Idealize.ShloMosaic.Lib.ValueIdx

@[expose] public section
set_option maxRecDepth 16384
noncomputable section

namespace Cert.Proof.Ref

open Cert.ReferenceIdeal Cert.ReferenceIdeal.Gen
open Idealize.ShloMosaic Idealize.ShloMosaic.TcCoe
open Cert.Proof.Rows (near rest code total first)

/-- The row `i` of an array. -/
def row {n k : ℕ} (r : (⟨2, ![n, k]⟩ : Shape).Idx → EReal) (i : Fin n) (l : Fin k) : EReal := r (ix2 i l)

/-- The entries of a vector. -/
def vec {n : ℕ} (b : (⟨1, ![n]⟩ : Shape).Idx → EReal) (l : Fin n) : EReal := b (ix1 l)

/-- The rows of table `q` of a stack. -/
def table {m n k : ℕ} (c : (⟨3, ![m, n, k]⟩ : Shape).Idx → EReal) (q : Fin m) (j : Fin n) (l : Fin k) : EReal := c (ix3 q j l)

theorem layer1_apply (x : FVec Ideal S16384x768 .f32) (w : FVec Ideal S768x512 .f32) (b : FVec Ideal S512 .f32) (i : Fin 16384) :
    row (refLayer1 x w b) i = Rows.hidden (row x i) (row w) (vec b) := by
  funext k
  show refLayer1 x w b (ix2 i k) = _
  pointwise [refLayer1]
  rfl

theorem layer2_apply (x : FVec Ideal S16384x512 .f32) (w : FVec Ideal S512x256 .f32) (b : FVec Ideal S256 .f32) (i : Fin 16384) :
    row (refLayer2 x w b) i = Rows.hidden (row x i) (row w) (vec b) := by
  funext k
  show refLayer2 x w b (ix2 i k) = _
  pointwise [refLayer2]
  rfl

theorem layer3_apply (x : FVec Ideal S16384x256 .f32) (w : FVec Ideal S256x64 .f32) (b : FVec Ideal S64 .f32) (i : Fin 16384) :
    row (refLayer3 x w b) i = Rows.dense (row x i) (row w) (vec b) := by
  funext k
  show refLayer3 x w b (ix2 i k) = _
  pointwise [refLayer3]
  rfl

/-- The three layers together. -/
theorem latent_apply (x : FVec Ideal S16384x768 .f32) (w1 : FVec Ideal S768x512 .f32) (b1 : FVec Ideal S512 .f32)
    (w2 : FVec Ideal S512x256 .f32) (b2 : FVec Ideal S256 .f32) (w3 : FVec Ideal S256x64 .f32) (b3 : FVec Ideal S64 .f32) (i : Fin 16384) :
    row (refLayer3 (refLayer2 (refLayer1 x w1 b1) w2 b2) w3 b3) i
      = Rows.latent (row x i) (row w1) (vec b1) (row w2) (vec b2) (row w3) (vec b3) := by
  rw [layer3_apply, layer2_apply, layer1_apply]
  rfl

theorem dist_apply (r : FVec Ideal S16384x64 .f32) (cb : FVec Ideal S1024x64 .f32) (i : Fin 16384) (j : Fin 1024) :
    refDist r cb (ix2 i j) = Rows.dist (row r i) (row cb j) := by
  pointwise [refDist]
  rw [Words.ofBits_two]
  rfl

/-- The reference's search, as one function of the row. -/
theorem argmin_def {F : FTy → Type} [FloatOps F] (d : FVec F S16384x1024 .f32) : refArgmin d = fun j =>
    (Host.argReduce reducer_argmin_f32_i32 d (iotaInDim S16384x1024 32 1) (constant S_ .f32 0x7F800000#32) (constantI S_ 32 0#32)
        reducesTo_S16384x1024_S16384_d1 h_S_ j).2 := rfl

/-- The number found is the first nearest. -/
theorem argmin_apply (d : FVec Ideal S16384x1024 .f32) (i : Fin 16384) :
    refArgmin d (ix1 i) = BitVec.ofNat 32 (first fun j => d (ix2 i j)).val := by
  have e := Argmin.argmin_row (n := 16384) (u := S_) d (iotaInDim S16384x1024 32 1) (constant (F := Ideal) S_ .f32 0x7F800000#32)
    (constantI S_ 32 0#32) reducesTo_S16384x1024_S16384_d1 h_S_ (fun i j => rfl) (fun _ => Words.ofBits_inf) (fun _ => rfl) i
  exact (congrFun (argmin_def d) (ix1 i)).trans e

theorem nearest_apply (r : FVec Ideal S16384x64 .f32) (cb : FVec Ideal S1024x64 .f32) (i : Fin 16384) :
    refNearest r cb (ix1 i) = BitVec.ofNat 32 (near (row r i) (row cb)).val := by
  have hd : (fun j => refDist r cb (ix2 i j)) = fun j => Rows.dist (row r i) (row cb j) := funext fun j => dist_apply r cb i j
  unfold refNearest near
  rw [argmin_apply, hd]

/-- A row number inside the table is left as it is. -/
theorem wrap_apply (n : IVec S16384 32) (i : Fin 16384) (a : Fin 1024) (h : n (ix1 i) = BitVec.ofNat 32 a.val) :
    refWrap n (ix2 i 0) = BitVec.ofNat 32 a.val := by
  pointwise [refWrap]
  rw [h]
  have ha := a.isLt
  have : (BitVec.ofNat 32 a.val).slt 0#32 = false := by
    rw [show (0#32) = BitVec.ofNat 32 0 from rfl, Words.slt_ofNat (by omega) (by omega)]
    simp
  simp [IntOp.cmpi, this, Scalar.select]

/-- Rows taken at numbers inside the table are the table's rows. -/
theorem take_apply (cb : FVec Ideal S1024x64 .f32) (n : IVec S16384 32) (i : Fin 16384) (a : Fin 1024) (h : n (ix1 i) = BitVec.ofNat 32 a.val) :
    row (refTake cb n) i = row cb a := by
  funext k
  have ha := a.isLt
  have hw := wrap_apply n i a h
  have hg : Host.gather gather_S1024x64_S16384x1_S16384x64_1_0_n_n_0_1_164 cb (refWrap n) (ix2 i k) = cb (ix2 a k) := by
    refine (Argmin.gather_rows (by decide) _ rfl rfl rfl rfl rfl rfl cb (refWrap n) i k).trans ?_
    congr 2
    refine Fin.ext ?_
    show min (refWrap n (ix2 i 0)).toInt.toNat (1024 - 1) = a.val
    have hn : (BitVec.ofNat 32 a.val).toNat = a.val := by rw [BitVec.toNat_ofNat, Nat.mod_eq_of_lt (by omega)]
    rw [hw, BitVec.toInt_eq_toNat_of_lt (by omega), hn, Int.toNat_natCast]
    omega
  have hb : (broadcastInDim S16384x64 ![0] bcast_S16384_S16384x64_0
      (Host.reduce IntOp.andi
        (andi (cmpi .sge (refWrap n) (broadcastInDim S16384x1 ![] bcast_S_S16384x1 (constantI S_ 32 0#32)))
          (cmpi .sle (refWrap n) (broadcastInDim S16384x1 ![0, 1] bcast_S1x1_S16384x1_0_1
            (broadcastInDim S1x1 ![1] bcast_S1_S1x1_1 (constantI S1 32 1023#32)))))
        (constantI S_ 1 1#1) reducesTo_S16384x1_S16384_d1 h_S_)) (ix2 i k) = 1#1 := by
    generalize refWrap n = v at hw
    pointwise []
    have hu : (Finset.univ : Finset (Fin 1)) = {0} := rfl
    rw [hu, Finset.fold_singleton, hw]
    have h1 : (BitVec.ofNat 32 a.val).slt 0#32 = false := by
      rw [show (0#32) = BitVec.ofNat 32 0 from rfl, Words.slt_ofNat (by omega) (by omega)]
      simp
    have h2 : (1023#32).slt (BitVec.ofNat 32 a.val) = false := by
      rw [show (1023#32) = BitVec.ofNat 32 1023 from rfl, Words.slt_ofNat (by omega) (by omega)]
      simp; omega
    have h3 : (0#32).sle (BitVec.ofNat 32 a.val) = true := by rw [BitVec.sle_eq_not_slt, h1]; rfl
    have h4 : (BitVec.ofNat 32 a.val).sle 1023#32 = true := by rw [BitVec.sle_eq_not_slt, h2]; rfl
    simp [IntOp.cmpi, h3, h4, IntOp.andi]
  have sel : ∀ (b : IVec S16384x64 1) (x y : FVec Ideal S16384x64 .f32), b (ix2 i k) = 1#1 → select b x y (ix2 i k) = x (ix2 i k) :=
    fun b x y h => by unfold select; rw [h]; rfl
  show refTake cb n (ix2 i k) = cb (ix2 a k)
  unfold refTake
  rw [sel _ _ _ hb, hg]

theorem rows_apply (r : FVec Ideal S16384x64 .f32) (cb : FVec Ideal S1024x64 .f32) (i : Fin 16384) :
    row (refRows r cb) i = row cb (near (row r i) (row cb)) := take_apply cb _ i _ (nearest_apply r cb i)

theorem left_apply (r : FVec Ideal S16384x64 .f32) (cb : FVec Ideal S1024x64 .f32) (i : Fin 16384) :
    row (refLeft r cb) i = rest (row r i) (row cb) := by
  funext k
  have sub : ∀ a b : FVec Ideal S16384x64 .f32, row (subf a b) i k = row a i k - row b i k := fun _ _ => rfl
  rw [refLeft, sub, rows_apply]
  rfl

theorem book0_apply (c : FVec Ideal S3x1024x64 .f32) : row (refBook0 c) = table c 0 := by
  funext j k
  show refBook0 c (ix2 j k) = _
  pointwise [refBook0]
  rfl

theorem book1_apply (c : FVec Ideal S3x1024x64 .f32) : row (refBook1 c) = table c 1 := by
  funext j k
  show refBook1 c (ix2 j k) = _
  pointwise [refBook1]
  rfl

theorem book2_apply (c : FVec Ideal S3x1024x64 .f32) : row (refBook2 c) = table c 2 := by
  funext j k
  show refBook2 c (ix2 j k) = _
  pointwise [refBook2]
  rfl

/-- The indices. -/
theorem ids_apply (z : FVec Ideal S16384x64 .f32) (c : FVec Ideal S3x1024x64 .f32) (i : Fin 16384) (l : Fin 3) :
    refIds z c (ix2 i l) = BitVec.ofNat 32 (code (row z i) (table c 0) (table c 1) (table c 2) l).val := by
  have e : ∀ a b d : IVec S16384 32, threeColumns (refColumn a) (refColumn b) (refColumn d) (ix2 i l)
      = if l.val < 1 then a (ix1 i) else if l.val - 1 < 1 then b (ix1 i) else d (ix1 i) := fun a b d => by
    pointwise [threeColumns, refColumn]
    simp only [dite_eq_ite]
  rw [refIds, e]
  simp only [nearest_apply, left_apply, book0_apply, book1_apply, book2_apply, code]
  split
  · rfl
  · split <;> rfl

/-- The sums. -/
theorem quant_apply (z : FVec Ideal S16384x64 .f32) (c : FVec Ideal S3x1024x64 .f32) (i : Fin 16384) (k : Fin 64) :
    refQuant z c (ix2 i k) = total (row z i) (table c 0) (table c 1) (table c 2) k := by
  have hzero : (refZero : FVec Ideal S16384x64 .f32) (ix2 i k) = 0 := by
    pointwise [refZero]
  have add : ∀ a b : FVec Ideal S16384x64 .f32, addf a b (ix2 i k) = a (ix2 i k) + row b i k := fun _ _ => rfl
  rw [refQuant, add, add, add, hzero]
  simp only [rows_apply, left_apply, book0_apply, book1_apply, book2_apply]
  rfl

end Cert.Proof.Ref

end
-- ==== Proof.Equation.lean ====
/-
What the kernel's two output arrays end holding, at every index, and that the reference's two arrays hold the same.
-/
module

public import proofs.«01_k».proof.Proof.Points
public import proofs.«01_k».proof.Proof.RefValue

@[expose] public section
set_option maxRecDepth 16384
noncomputable section

namespace Cert.Proof.Chunk

open Cert.KernelIdeal Cert.KernelIdeal.Gen Cert.KernelIdeal.Value
open Idealize.ShloMosaic Idealize.ShloMosaic.TcCoe
open Cert.Proof.Rows (IsReal code total)

variable (m : (ℓ : Loc nD τ sig) → Buf (Elt Ideal) ℓ) (c : Dev nD)

/-- The latent row of row `i` of the launch's input. -/
def latentOf (i : Fin 16384) : Fin 64 → EReal :=
  Rows.latent (Ref.row (m (c.tc.loc main_arg0) : Vec Ideal S16384x768 .f32) i) (Ref.row (m (c.tc.loc main_arg1) : Vec Ideal S768x512 .f32)) (Ref.vec (m (c.tc.loc main_arg2) : Vec Ideal S512 .f32))
    (Ref.row (m (c.tc.loc main_arg3) : Vec Ideal S512x256 .f32)) (Ref.vec (m (c.tc.loc main_arg4) : Vec Ideal S256 .f32)) (Ref.row (m (c.tc.loc main_arg5) : Vec Ideal S256x64 .f32))
    (Ref.vec (m (c.tc.loc main_arg6) : Vec Ideal S64 .f32))

/-- A point's block computes the latent rows of its rows of the input. -/
theorem latentRow_block (t : Fin cfg0.N) (r : Fin 2048) (h : 2048 * t.val + r.val < 16384) :
    latentRow (iblk m c 0 t) (iblk m c 1 t) (iblk m c 2 t) (iblk m c 3 t) (iblk m c 4 t) (iblk m c 5 t) (iblk m c 6 t) r
      = latentOf m c ⟨2048 * t.val + r.val, h⟩ := by
  have e0 : row (iblk m c 0 t : Vec Ideal S2048x768 .f32) r = Ref.row (m (c.tc.loc main_arg0) : Vec Ideal S16384x768 .f32) ⟨2048 * t.val + r.val, h⟩ :=
    funext fun j => iblk_x m c t r j h
  have e1 : row (iblk m c 1 t : Vec Ideal S768x512 .f32) = Ref.row (m (c.tc.loc main_arg1) : Vec Ideal S768x512 .f32) :=
    funext fun i => funext fun j => congrFun (iblk_w1 m c t) (ix2 i j)
  have e2 : row (iblk m c 2 t : Vec Ideal S1x512 .f32) 0 = Ref.vec (m (c.tc.loc main_arg2) : Vec Ideal S512 .f32) :=
    funext fun j => iblk_b1 m c t j
  have e3 : row (iblk m c 3 t : Vec Ideal S512x256 .f32) = Ref.row (m (c.tc.loc main_arg3) : Vec Ideal S512x256 .f32) :=
    funext fun i => funext fun j => congrFun (iblk_w2 m c t) (ix2 i j)
  have e4 : row (iblk m c 4 t : Vec Ideal S1x256 .f32) 0 = Ref.vec (m (c.tc.loc main_arg4) : Vec Ideal S256 .f32) :=
    funext fun j => iblk_b2 m c t j
  have e5 : row (iblk m c 5 t : Vec Ideal S256x64 .f32) = Ref.row (m (c.tc.loc main_arg5) : Vec Ideal S256x64 .f32) :=
    funext fun i => funext fun j => congrFun (iblk_w3 m c t) (ix2 i j)
  have e6 : row (iblk m c 6 t : Vec Ideal S1x64 .f32) 0 = Ref.vec (m (c.tc.loc main_arg6) : Vec Ideal S64 .f32) :=
    funext fun j => iblk_b3 m c t j
  rw [latentRow, e0, e1, e2, e3, e4, e5, e6, latentOf]

/-- The codebooks of a point's block. -/
theorem book_block (t : Fin cfg0.N) (q : Fin 3) : book (iblk m c 7 t) q = Ref.table (books m c) q :=
  funext fun j => funext fun k => congrFun (iblk_books m c t) (ix3 q j k)

variable {m c} (h : LaunchReal m c)
include h

/-- THE KERNEL'S INDICES: at row `i` and level `l`, the number of the codebook row nearest to what is left of the latent row. -/
theorem ids_at (i : Fin 16384) (l : Fin 3) :
    (G8 m c : Vec Ideal S16384x3 .i32) (ix2 i l)
      = BitVec.ofNat 32 (code (latentOf m c i) (Ref.table (books m c) 0) (Ref.table (books m c) 1) (Ref.table (books m c) 2) l).val := by
  have hi := i.isLt
  have hp : pt8Of (ix2 i l) = i.val / 2048 := by show 1 * (i.val / 2048 - 0) + 1 * (l.val / 3 - 0) = _; omega
  have ht : pt8Of (ix2 i l) < cfg0.N := lt_of_lt_of_eq (by omega) N_0.symm
  have hl : loc8Of (ix2 i l) = ix2 (⟨i.val % 2048, Nat.mod_lt _ (by decide)⟩ : Fin 2048) l := by
    funext a
    match a with
    | ⟨0, _⟩ => rfl
    | ⟨1, _⟩ => exact Fin.ext (Nat.mod_eq_of_lt l.isLt)
  have hr : 2048 * (⟨pt8Of (ix2 i l), ht⟩ : Fin cfg0.N).val + (⟨i.val % 2048, Nat.mod_lt _ (by decide)⟩ : Fin 2048).val < 16384 := by
    show 2048 * pt8Of (ix2 i l) + i.val % 2048 < 16384; omega
  have hrow : (⟨2048 * (⟨pt8Of (ix2 i l), ht⟩ : Fin cfg0.N).val + (⟨i.val % 2048, Nat.mod_lt _ (by decide)⟩ : Fin 2048).val, hr⟩ : Fin 16384) = i :=
    Fin.ext (by show 2048 * pt8Of (ix2 i l) + i.val % 2048 = i.val; omega)
  have e : (G8 m c : Vec Ideal S16384x3 .i32) (ix2 i l) = idsAt m c ⟨pt8Of (ix2 i l), ht⟩ (loc8Of (ix2 i l)) := by
    refine (dif_pos ht).trans ?_
    rw [← outsAt0_sweep m c _ ht, outsAt_eq h]
  rw [e, hl]
  show BitVec.ofNat 32 (code (latentRow _ _ _ _ _ _ _ (⟨i.val % 2048, _⟩ : Fin 2048)) (book _ 0) (book _ 1) (book _ 2) l).val = _
  rw [latentRow_block m c _ _ hr, hrow, book_block, book_block, book_block]

/-- THE KERNEL'S SUMS: at row `i`, the sum of the three codebook rows. -/
theorem quant_at (i : Fin 16384) (k : Fin 64) :
    (G9 m c : Vec Ideal S16384x64 .f32) (ix2 i k)
      = total (latentOf m c i) (Ref.table (books m c) 0) (Ref.table (books m c) 1) (Ref.table (books m c) 2) k := by
  have hi := i.isLt
  have hp : pt9Of (ix2 i k) = i.val / 2048 := by show 1 * (i.val / 2048 - 0) + 1 * (k.val / 64 - 0) = _; omega
  have ht : pt9Of (ix2 i k) < cfg0.N := lt_of_lt_of_eq (by omega) N_0.symm
  have hl : loc9Of (ix2 i k) = ix2 (⟨i.val % 2048, Nat.mod_lt _ (by decide)⟩ : Fin 2048) k := by
    funext a
    match a with
    | ⟨0, _⟩ => rfl
    | ⟨1, _⟩ => exact Fin.ext (Nat.mod_eq_of_lt k.isLt)
  have hr : 2048 * (⟨pt9Of (ix2 i k), ht⟩ : Fin cfg0.N).val + (⟨i.val % 2048, Nat.mod_lt _ (by decide)⟩ : Fin 2048).val < 16384 := by
    show 2048 * pt9Of (ix2 i k) + i.val % 2048 < 16384; omega
  have hrow : (⟨2048 * (⟨pt9Of (ix2 i k), ht⟩ : Fin cfg0.N).val + (⟨i.val % 2048, Nat.mod_lt _ (by decide)⟩ : Fin 2048).val, hr⟩ : Fin 16384) = i :=
    Fin.ext (by show 2048 * pt9Of (ix2 i k) + i.val % 2048 = i.val; omega)
  have e : (G9 m c : Vec Ideal S16384x64 .f32) (ix2 i k) = quantAt m c ⟨pt9Of (ix2 i k), ht⟩ (loc9Of (ix2 i k)) := by
    refine (dif_pos ht).trans ?_
    rw [← outsAt0_sweep m c _ ht, outsAt_eq h]
  rw [e, hl]
  show total (latentRow _ _ _ _ _ _ _ (⟨i.val % 2048, _⟩ : Fin 2048)) (book _ 0) (book _ 1) (book _ 2) k = _
  rw [latentRow_block m c _ _ hr, hrow, book_block, book_block, book_block]

end Cert.Proof.Chunk

namespace Cert.Proof.Chunk

open Cert.KernelIdeal Cert.KernelIdeal.Gen Cert.KernelIdeal.Value
open Idealize.ShloMosaic Idealize.ShloMosaic.TcCoe

variable {m : (ℓ : Loc nD τ sig) → Buf (Elt Ideal) ℓ} {c : Dev nD}

/-- The reference's latent array of the launch's arguments. -/
abbrev refLatent (m : (ℓ : Loc nD τ sig) → Buf (Elt Ideal) ℓ) (c : Dev nD) : FVec Ideal S16384x64 .f32 :=
  Ref.refLayer3 (Ref.refLayer2 (Ref.refLayer1 (m (c.tc.loc main_arg0) : FVec Ideal S16384x768 .f32) (m (c.tc.loc main_arg1) : FVec Ideal S768x512 .f32)
    (m (c.tc.loc main_arg2) : FVec Ideal S512 .f32)) (m (c.tc.loc main_arg3) : FVec Ideal S512x256 .f32) (m (c.tc.loc main_arg4) : FVec Ideal S256 .f32))
    (m (c.tc.loc main_arg5) : FVec Ideal S256x64 .f32) (m (c.tc.loc main_arg6) : FVec Ideal S64 .f32)

/-- The two index arrays are one. -/
theorem ids_eq (h : LaunchReal m c) : (G8 m c : Vec Ideal S16384x3 .i32) = Ref.refIds (refLatent m c) (books m c) := by
  funext y
  obtain ⟨i, l, rfl⟩ : ∃ (i : Fin 16384) (l : Fin 3), y = ix2 i l := ⟨y 0, y 1, eq_ix2 y⟩
  refine (ids_at h i l).trans (Eq.symm ((Ref.ids_apply (refLatent m c) (books m c) i l).trans ?_))
  rw [Ref.latent_apply]
  rfl

/-- The two arrays of sums are one. -/
theorem quant_eq (h : LaunchReal m c) : (G9 m c : Vec Ideal S16384x64 .f32) = Ref.refQuant (refLatent m c) (books m c) := by
  funext y
  obtain ⟨i, k, rfl⟩ : ∃ (i : Fin 16384) (k : Fin 64), y = ix2 i k := ⟨y 0, y 1, eq_ix2 y⟩
  refine (quant_at h i k).trans (Eq.symm ((Ref.quant_apply (refLatent m c) (books m c) i k).trans ?_))
  rw [Ref.latent_apply]
  rfl

/-- A run of the reference from arguments that agree with the launch's computes that latent array. -/
theorem refZ_agree (V : Valuation Cert.ReferenceIdeal.τ Cert.ReferenceIdeal.sig (Elt Ideal))
    (h0 : V (Proc.devRef .tc Cert.ReferenceIdeal.main_arg0) = m (c.tc.loc main_arg0)) (h1 : V (Proc.devRef .tc Cert.ReferenceIdeal.main_arg1) = m (c.tc.loc main_arg1))
    (h2 : V (Proc.devRef .tc Cert.ReferenceIdeal.main_arg2) = m (c.tc.loc main_arg2)) (h3 : V (Proc.devRef .tc Cert.ReferenceIdeal.main_arg3) = m (c.tc.loc main_arg3))
    (h4 : V (Proc.devRef .tc Cert.ReferenceIdeal.main_arg4) = m (c.tc.loc main_arg4)) (h5 : V (Proc.devRef .tc Cert.ReferenceIdeal.main_arg5) = m (c.tc.loc main_arg5))
    (h6 : V (Proc.devRef .tc Cert.ReferenceIdeal.main_arg6) = m (c.tc.loc main_arg6)) : Ref.refZ V = refLatent m c := by
  unfold Ref.refZ
  rw [h0, h1, h2, h3, h4, h5, h6]

end Cert.Proof.Chunk

end
-- ==== Proof.lean ====
/-
The claims, put together: the three programs run and leave their arguments as they were; the idealization replaced nothing; and on finite
arguments the kernel's two arrays are the reference's.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.RefRun
public import proofs.«01_k».proof.Proof.Finite
public import proofs.«01_k».proof.Proof.Equation
public import Idealize.ShloMosaic.Adequacy
public import Idealize.ShloMosaic.Init

@[expose] public section

noncomputable section

namespace Cert.Proof

open Idealize.ShloMosaic Idealize.SL.Sem Cert.Kernel

/-- The reference runs and leaves its arguments as they were; it declares no semaphore. -/
theorem frame_r : Cert.quiescent_ReferenceIdeal (hReferenceIdeal := Cert.ReferenceIdeal.Gen.facts) := fun m ρ _ =>
  (θ_run Cert.ReferenceIdeal.defs _ _).mono (fun r h => ⟨fun c => (h c).2.2, sem_eq_zero_of_no_sems (by decide) r.2⟩)
    (Ref.run (F := Ideal) m ρ)

/-- The precondition says that the launch's arguments hold real numbers. -/
theorem launchReal (m : (ℓ : Loc Cert.KernelIdeal.nD Cert.KernelIdeal.τ Cert.KernelIdeal.sig) → Buf (Elt Ideal) ℓ)
    (h : Cert.Pre_KernelIdeal_finite (hPre_finite := Finite.facts) m) (c : Dev Cert.KernelIdeal.nD) : Chunk.LaunchReal m c := by
  haveI := Finite.facts
  obtain ⟨h0, h1, h2, h3, h4, h5, h6, h7⟩ := Finite.finite_real _ _ _ _ _ _ _ _ (h c)
  exact ⟨h0, h1, h2, h3, h4, h5, h6, h7⟩

/-- The kernel and the reference compute the same two arrays. -/
theorem equal : Cert.algebraic_KernelIdeal_ReferenceIdeal_pre_finite (hKernelIdeal := Cert.KernelIdeal.Gen.facts)
    (hReferenceIdeal := Cert.ReferenceIdeal.Gen.facts) (hPre_finite := Finite.facts) := fun m g m' g' hpre hargs =>
  ⟨fun c => Cert.KernelIdeal.Value.G8 m c, fun c => Cert.KernelIdeal.Value.G9 m c, Cert.KernelIdeal.Value.run m g,
    (θ_run Cert.ReferenceIdeal.defs _ _).mono (fun r h c => by
      obtain ⟨a0, a1, a2, a3, a4, a5, a6, a7⟩ := hargs c
      have hr := launchReal m hpre c
      have ez : Ref.refZ (StableHlo.launchContents m' c) = Chunk.refLatent m c := Chunk.refZ_agree _ a0 a1 a2 a3 a4 a5 a6
      have e8 := (h c).1
      have e9 := (h c).2.1
      rw [ez, a7] at e8 e9
      exact ⟨e8.trans (Chunk.ids_eq hr).symm, e9.trans (Chunk.quant_eq hr).symm, (h c).2.2⟩)
    (Ref.run (F := Ideal) m' g')⟩

theorem claim : Cert.Claim := ⟨Cert.Kernel.Gen.facts, Cert.KernelIdeal.Gen.facts, Cert.ReferenceIdeal.Gen.facts, Finite.facts,
  fun m ρ _ => Cert.Kernel.Gen.frame m ρ, fun m ρ _ => Cert.KernelIdeal.Gen.frame m ρ, fun m ρ _ => Cert.KernelIdeal.Gen.frame m ρ, frame_r,
  fun m ρ _ => frame_r m ρ trivial, trivial, equal⟩

end Cert.Proof

end
